-- ==== Defs.lean ====
def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)) →
    ∃ (v0 : (c : Dev Cert.DxIdeal.nD) → Buf (Elt Ideal) ((c.tc : Thread Cert.DxIdeal.nD Cert.DxIdeal.τ).loc Cert.DxIdeal.main_v7_0)) (v1 : (c : Dev Cert.DxIdeal.nD) → Buf (Elt Ideal) ((c.tc : Thread Cert.DxIdeal.nD Cert.DxIdeal.τ).loc Cert.DxIdeal.main_v7_1)) (v2 : (c : Dev Cert.DxIdeal.nD) → Buf (Elt Ideal) ((c.tc : Thread Cert.DxIdeal.nD Cert.DxIdeal.τ).loc Cert.DxIdeal.main_v7_2)) (v3 : (c : Dev Cert.DxIdeal.nD) → Buf (Elt Ideal) ((c.tc : Thread Cert.DxIdeal.nD Cert.DxIdeal.τ).loc Cert.DxIdeal.main_v7_3)) (v4 : (c : Dev Cert.DxIdeal.nD) → Buf (Elt Ideal) ((c.tc : Thread Cert.DxIdeal.nD Cert.DxIdeal.τ).loc Cert.DxIdeal.main_v7_4)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v7_0) = v0 c
          ∧ r.2.mem ((c.tc : Thread Cert.DxIdeal.nD Cert.DxIdeal.τ).loc Cert.DxIdeal.main_v7_1) = v1 c
          ∧ r.2.mem ((c.tc : Thread Cert.DxIdeal.nD Cert.DxIdeal.τ).loc Cert.DxIdeal.main_v7_2) = v2 c
          ∧ r.2.mem ((c.tc : Thread Cert.DxIdeal.nD Cert.DxIdeal.τ).loc Cert.DxIdeal.main_v7_3) = v3 c
          ∧ r.2.mem ((c.tc : Thread Cert.DxIdeal.nD Cert.DxIdeal.τ).loc Cert.DxIdeal.main_v7_4) = v4 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v7_0) = v0 c
          ∧ r.2.mem ((c.tc : Thread Cert.DxRefIdeal.nD Cert.DxRefIdeal.τ).loc Cert.DxRefIdeal.main_v7_1) = v1 c
          ∧ r.2.mem ((c.tc : Thread Cert.DxRefIdeal.nD Cert.DxRefIdeal.τ).loc Cert.DxRefIdeal.main_v7_2) = v2 c
          ∧ r.2.mem ((c.tc : Thread Cert.DxRefIdeal.nD Cert.DxRefIdeal.τ).loc Cert.DxRefIdeal.main_v7_3) = v3 c
          ∧ r.2.mem ((c.tc : Thread Cert.DxRefIdeal.nD Cert.DxRefIdeal.τ).loc Cert.DxRefIdeal.main_v7_4) = v4 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v1) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v1) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def Claim : Prop :=
  ∃ (hDx : Cert.Dx.Facts) (hDxIdeal : Cert.DxIdeal.Facts) (hDxRefIdeal : Cert.DxRefIdeal.Facts) (hDw : Cert.Dw.Facts) (hDwIdeal : Cert.DwIdeal.Facts) (hDwRefIdeal : Cert.DwRefIdeal.Facts),
    quiescent_Dx (hDx := hDx)
    ∧ quiescent_DxIdeal (hDxIdeal := hDxIdeal)
    ∧ quiescent_DxRefIdeal (hDxRefIdeal := hDxRefIdeal)
    ∧ quiescent_Dw (hDw := hDw)
    ∧ quiescent_DwIdeal (hDwIdeal := hDwIdeal)
    ∧ quiescent_DwRefIdeal (hDwRefIdeal := hDwRefIdeal)
    ∧ preserves_Dx_DxIdeal
    ∧ algebraic_DxIdeal_DxRefIdeal (hDxIdeal := hDxIdeal) (hDxRefIdeal := hDxRefIdeal)
    ∧ preserves_Dw_DwIdeal
    ∧ algebraic_DwIdeal_DwRefIdeal (hDwIdeal := hDwIdeal) (hDwRefIdeal := hDwRefIdeal)
-- ==== Dx.lean ====
abbrev S3x640x1792 : Shape := ⟨3, ![3, 640, 1792]⟩
abbrev S3x640 : Shape := ⟨2, ![3, 640]⟩
abbrev S1792 : Shape := ⟨1, ![1792]⟩
abbrev S1792x2304 : Shape := ⟨2, ![1792, 2304]⟩
abbrev S2304 : Shape := ⟨1, ![2304]⟩
abbrev S3x640x2304 : Shape := ⟨3, ![3, 640, 2304]⟩
abbrev S1920x2304 : Shape := ⟨2, ![1920, 2304]⟩
abbrev S1920x1792 : Shape := ⟨2, ![1920, 1792]⟩
abbrev S1920x1 : Shape := ⟨2, ![1920, 1]⟩
abbrev S1x1792 : Shape := ⟨2, ![1, 1792]⟩
abbrev S1x2304 : Shape := ⟨2, ![1, 2304]⟩
abbrev S1920x14 : Shape := ⟨2, ![1920, 14]⟩
abbrev S384x1792 : Shape := ⟨2, ![384, 1792]⟩
abbrev S384x1 : Shape := ⟨2, ![384, 1]⟩
abbrev S384x2304 : Shape := ⟨2, ![384, 2304]⟩
abbrev S384x14 : Shape := ⟨2, ![384, 14]⟩
abbrev S384 : Shape := ⟨1, ![384]⟩
abbrev S384x128 : Shape := ⟨2, ![384, 128]⟩

abbrev nBuf : Space → Nat
  | .hbm => 20
  | .vmem => 23
  | .smem => 0
  | _ => 0

abbrev bufTy : (tb : Table) → Fin (tcTables nBuf tb) → BufTy
  | .hbm, ⟨0, _⟩ => ⟨S3x640x1792, .fp8e4m3⟩
  | .hbm, ⟨1, _⟩ => ⟨S3x640, .f32⟩
  | .hbm, ⟨2, _⟩ => ⟨S3x640, .f32⟩
  | .hbm, ⟨3, _⟩ => ⟨S1792, .f32⟩
  | .hbm, ⟨4, _⟩ => ⟨S1792x2304, .fp8e4m3⟩
  | .hbm, ⟨5, _⟩ => ⟨S2304, .f32⟩
  | .hbm, ⟨6, _⟩ => ⟨S3x640x2304, .bf16⟩
  | .hbm, ⟨7, _⟩ => ⟨S3x640x1792, .bf16⟩
  | .hbm, ⟨8, _⟩ => ⟨S1920x2304, .bf16⟩
  | .hbm, ⟨9, _⟩ => ⟨S1920x1792, .fp8e4m3⟩
  | .hbm, ⟨10, _⟩ => ⟨S1920x1, .f32⟩
  | .hbm, ⟨11, _⟩ => ⟨S1920x1, .f32⟩
  | .hbm, ⟨12, _⟩ => ⟨S1x1792, .f32⟩
  | .hbm, ⟨13, _⟩ => ⟨S1x2304, .f32⟩
  | .hbm, ⟨14, _⟩ => ⟨S1920x1792, .bf16⟩
  | .hbm, ⟨15, _⟩ => ⟨S1920x1792, .bf16⟩
  | .hbm, ⟨16, _⟩ => ⟨S1x1792, .f32⟩
  | .hbm, ⟨17, _⟩ => ⟨S1920x1792, .fp8e5m2⟩
  | .hbm, ⟨18, _⟩ => ⟨S1920x14, .f32⟩
  | .hbm, ⟨19, _⟩ => ⟨S1920x1792, .bf16⟩
  | .local _ .vmem, ⟨0, _⟩ => ⟨S384x1792, .fp8e4m3⟩
  | .local _ .vmem, ⟨1, _⟩ => ⟨S384x1792, .fp8e4m3⟩
  | .local _ .vmem, ⟨2, _⟩ => ⟨S384x1, .f32⟩
  | .local _ .vmem, ⟨3, _⟩ => ⟨S384x1, .f32⟩
  | .local _ .vmem, ⟨4, _⟩ => ⟨S384x1, .f32⟩
  | .local _ .vmem, ⟨5, _⟩ => ⟨S384x1, .f32⟩
  | .local _ .vmem, ⟨6, _⟩ => ⟨S1x1792, .f32⟩
  | .local _ .vmem, ⟨7, _⟩ => ⟨S1792x2304, .fp8e4m3⟩
  | .local _ .vmem, ⟨8, _⟩ => ⟨S1x2304, .f32⟩
  | .local _ .vmem, ⟨9, _⟩ => ⟨S384x2304, .bf16⟩
  | .local _ .vmem, ⟨10, _⟩ => ⟨S384x2304, .bf16⟩
  | .local _ .vmem, ⟨11, _⟩ => ⟨S384x1792, .bf16⟩
  | .local _ .vmem, ⟨12, _⟩ => ⟨S384x1792, .bf16⟩
  | .local _ .vmem, ⟨13, _⟩ => ⟨S384x1792, .bf16⟩
  | .local _ .vmem, ⟨14, _⟩ => ⟨S384x1792, .bf16⟩
  | .local _ .vmem, ⟨15, _⟩ => ⟨S1x1792, .f32⟩
  | .local _ .vmem, ⟨16, _⟩ => ⟨S384x1792, .fp8e5m2⟩
  | .local _ .vmem, ⟨17, _⟩ => ⟨S384x1792, .fp8e5m2⟩
  | .local _ .vmem, ⟨18, _⟩ => ⟨S384x14, .f32⟩
  | .local _ .vmem, ⟨19, _⟩ => ⟨S384x14, .f32⟩
  | .local _ .vmem, ⟨20, _⟩ => ⟨S384x1792, .bf16⟩
  | .local _ .vmem, ⟨21, _⟩ => ⟨S384x1792, .bf16⟩
  | .local _ .vmem, ⟨22, _⟩ => ⟨S1792x2304, .bf16⟩
  | _, _ => ⟨S3x640x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1792 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1792x2304 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1792 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1792 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S384x1792 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x14 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x1792 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== DxRefIdeal.lean ====
abbrev S3x640x1792 : Shape := ⟨3, ![3, 640, 1792]⟩
abbrev S3x640 : Shape := ⟨2, ![3, 640]⟩
abbrev S1792 : Shape := ⟨1, ![1792]⟩
abbrev S1792x2304 : Shape := ⟨2, ![1792, 2304]⟩
abbrev S2304 : Shape := ⟨1, ![2304]⟩
abbrev S3x640x2304 : Shape := ⟨3, ![3, 640, 2304]⟩
abbrev S1920x1792 : Shape := ⟨2, ![1920, 1792]⟩
abbrev S1920x1 : Shape := ⟨2, ![1920, 1]⟩
abbrev S1x1792 : Shape := ⟨2, ![1, 1792]⟩
abbrev S1x2304 : Shape := ⟨2, ![1, 2304]⟩
abbrev S1920x2304 : Shape := ⟨2, ![1920, 2304]⟩
abbrev S1920x14 : Shape := ⟨2, ![1920, 14]⟩
abbrev S1920 : Shape := ⟨1, ![1920]⟩
abbrev S1920x14x128 : Shape := ⟨3, ![1920, 14, 128]⟩
abbrev S1x1x252 : Shape := ⟨3, ![1, 1, 252]⟩
abbrev S1920x14x1 : Shape := ⟨3, ![1920, 14, 1]⟩
abbrev S1920x14x252 : Shape := ⟨3, ![1920, 14, 252]⟩

abbrev nBuf : Space → Nat
  | .hbm => 20
  | .vmem => 13
  | .smem => 0
  | _ => 0

abbrev bufTy : (tb : Table) → Fin (tcTables nBuf tb) → BufTy
  | .hbm, ⟨0, _⟩ => ⟨S3x640x1792, .fp8e4m3⟩
  | .hbm, ⟨1, _⟩ => ⟨S3x640, .f32⟩
  | .hbm, ⟨2, _⟩ => ⟨S3x640, .f32⟩
  | .hbm, ⟨3, _⟩ => ⟨S1792, .f32⟩
  | .hbm, ⟨4, _⟩ => ⟨S1792x2304, .fp8e4m3⟩
  | .hbm, ⟨5, _⟩ => ⟨S2304, .f32⟩
  | .hbm, ⟨6, _⟩ => ⟨S3x640x2304, .bf16⟩
  | .hbm, ⟨7, _⟩ => ⟨S3x640x1792, .bf16⟩
  | .hbm, ⟨8, _⟩ => ⟨S1920x1792, .fp8e4m3⟩
  | .hbm, ⟨9, _⟩ => ⟨S1920x1, .f32⟩
  | .hbm, ⟨10, _⟩ => ⟨S1920x1, .f32⟩
  | .hbm, ⟨11, _⟩ => ⟨S1x1792, .f32⟩
  | .hbm, ⟨12, _⟩ => ⟨S1x2304, .f32⟩
  | .hbm, ⟨13, _⟩ => ⟨S1920x2304, .bf16⟩
  | .hbm, ⟨14, _⟩ => ⟨S1920x1792, .bf16⟩
  | .hbm, ⟨15, _⟩ => ⟨S1920x1792, .bf16⟩
  | .hbm, ⟨16, _⟩ => ⟨S1x1792, .f32⟩
  | .hbm, ⟨17, _⟩ => ⟨S1920x1792, .fp8e5m2⟩
  | .hbm, ⟨18, _⟩ => ⟨S1920x14, .f32⟩
  | .hbm, ⟨19, _⟩ => ⟨S1920x1792, .bf16⟩
  | .local _ .vmem, ⟨0, _⟩ => ⟨S1920x1792, .fp8e4m3⟩
  | .local _ .vmem, ⟨1, _⟩ => ⟨S1920x1, .f32⟩
  | .local _ .vmem, ⟨2, _⟩ => ⟨S1920x1, .f32⟩
  | .local _ .vmem, ⟨3, _⟩ => ⟨S1x1792, .f32⟩
  | .local _ .vmem, ⟨4, _⟩ => ⟨S1792x2304, .fp8e4m3⟩
  | .local _ .vmem, ⟨5, _⟩ => ⟨S1x2304, .f32⟩
  | .local _ .vmem, ⟨6, _⟩ => ⟨S1920x2304, .bf16⟩
  | .local _ .vmem, ⟨7, _⟩ => ⟨S1920x1792, .bf16⟩
  | .local _ .vmem, ⟨8, _⟩ => ⟨S1920x1792, .bf16⟩
  | .local _ .vmem, ⟨9, _⟩ => ⟨S1x1792, .f32⟩
  | .local _ .vmem, ⟨10, _⟩ => ⟨S1920x1792, .fp8e5m2⟩
  | .local _ .vmem, ⟨11, _⟩ => ⟨S1920x14, .f32⟩
  | .local _ .vmem, ⟨12, _⟩ => ⟨S1920x1792, .bf16⟩
  | _, _ => ⟨S3x640x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1920x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x2304 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1920x1792 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1920x1792 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1792 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1920x1792 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1920x14 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1920x1792 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Dw.lean ====
abbrev S1920x1792 : Shape := ⟨2, ![1920, 1792]⟩
abbrev S3x640x2304 : Shape := ⟨3, ![3, 640, 2304]⟩
abbrev S1920x2304 : Shape := ⟨2, ![1920, 2304]⟩
abbrev S1792x2304 : Shape := ⟨2, ![1792, 2304]⟩
abbrev S1920x256 : Shape := ⟨2, ![1920, 256]⟩
abbrev S256x2304 : Shape := ⟨2, ![256, 2304]⟩

abbrev nBuf : Space → Nat
  | .hbm => 4
  | .vmem => 5
  | .smem => 0
  | _ => 0

abbrev bufTy : (tb : Table) → Fin (tcTables nBuf tb) → BufTy
  | .hbm, ⟨0, _⟩ => ⟨S1920x1792, .bf16⟩
  | .hbm, ⟨1, _⟩ => ⟨S3x640x2304, .bf16⟩
  | .hbm, ⟨2, _⟩ => ⟨S1920x2304, .bf16⟩
  | .hbm, ⟨3, _⟩ => ⟨S1792x2304, .f32⟩
  | .local _ .vmem, ⟨0, _⟩ => ⟨S1920x256, .bf16⟩
  | .local _ .vmem, ⟨1, _⟩ => ⟨S1920x256, .bf16⟩
  | .local _ .vmem, ⟨2, _⟩ => ⟨S1920x2304, .bf16⟩
  | .local _ .vmem, ⟨3, _⟩ => ⟨S256x2304, .f32⟩
  | .local _ .vmem, ⟨4, _⟩ => ⟨S256x2304, .f32⟩
  | _, _ => ⟨S1920x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1920x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1920x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwRefIdeal.lean ====
abbrev S1920x1792 : Shape := ⟨2, ![1920, 1792]⟩
abbrev S3x640x2304 : Shape := ⟨3, ![3, 640, 2304]⟩
abbrev S1920x2304 : Shape := ⟨2, ![1920, 2304]⟩
abbrev S1792x2304 : Shape := ⟨2, ![1792, 2304]⟩

abbrev nBuf : Space → Nat
  | .hbm => 4
  | .vmem => 0
  | .smem => 0
  | _ => 0

abbrev bufTy : (tb : Table) → Fin (tcTables nBuf tb) → BufTy
  | .hbm, ⟨0, _⟩ => ⟨S1920x1792, .bf16⟩
  | .hbm, ⟨1, _⟩ => ⟨S3x640x2304, .bf16⟩
  | .hbm, ⟨2, _⟩ => ⟨S1920x2304, .bf16⟩
  | .hbm, ⟨3, _⟩ => ⟨S1792x2304, .f32⟩
  | _, _ => ⟨S1920x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.K.DwValue.lean ====
/-
  THE dW CALL'S VALUE at the ideal instance. Grid point `t` multiplies the whole gradient by its 256 columns of the
  activation and writes rows `256 t … 256 t + 255` of dW; the seven blocks tile the array, which therefore ends holding
  `dW[d, n] = ∑ over the 1920 tokens of x_hat[token, d] * dqkv[token, n]`. The reference's `dot_general` is that sum.
-/
module

public import proofs.«01_k».proof.Proof.Gen.DwIdeal.Value
public import proofs.«01_k».proof.Proof.Gen.DwRefIdeal.Run
public import proofs.«01_k».proof.Defs
public import Idealize.ShloMosaic.PureOps.Ideal.Laws
public import Idealize.ShloMosaic.Lib.ValueIdxCore
public import Idealize.ShloMosaic.Lib.Quiescent

@[expose] public section

noncomputable section

open Idealize.ShloMosaic Idealize.ShloMosaic.TcCoe Idealize.SL.Sem Idealize.ShloMosaic.ValueIdx
open Idealize.ShloMosaic.Pipeline (Dat)
open scoped BigOperators

namespace Cert.DwIdeal.Value

open Cert.DwIdeal Cert.DwIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The gradient as the call reads it: `dqkv` with its batch and sequence axes laid out as 1920 rows. -/
abbrev grad (c : Dev nD) : FVec Ideal S1920x2304 .bf16 :=
  shapeCast S1920x2304 (m ((c : Thread nD τ).loc main_arg1)) shapeCasts_S3x640x2304_S1920x2304

/-- The activation argument, `x_hat` of every token. -/
abbrev act (c : Dev nD) : FVec Ideal S1920x1792 .bf16 := m ((c : Thread nD τ).loc main_arg0)

/-- dW as one function of the two arguments: entry `(d, n)` sums `x_hat[t, d] * dqkv[t, n]` over the 1920 tokens. -/
def dW (x : FVec Ideal S1920x1792 .bf16) (g : FVec Ideal S1920x2304 .bf16) : FVec Ideal S1792x2304 .f32 :=
  fun i => ∑ t : Fin 1920, x (ix2 (n0 := 1920) (n1 := 1792) t (i 0)) * g (ix2 (n0 := 1920) (n1 := 2304) t (i 1))

/-- One block's product read at an entry: the sum over the tokens. -/
theorem pay_apply (v0 : FVec Ideal S1920x256 .bf16) (v1 : FVec Ideal S1920x2304 .bf16) (j : S256x2304.Idx) :
    k0_pay1 (F := Ideal) v0 v1 j = ∑ t : Fin 1920, v0 (ix2 (n0 := 1920) (n1 := 256) t (j 0)) * v1 (ix2 (n0 := 1920) (n1 := 2304) t (j 1)) := by
  unfold k0_pay1
  simp only [shapeCast_self]
  refine (Ideal.matmul_constant_zero_apply _ none _ _ _).trans ?_
  rw [← Equiv.sum_comp (contrEquiv1 dot_S1920x256_S1920x2304_S256x2304_0_0_1_1_n_n 1920 rfl rfl).symm]
  refine Finset.sum_congr rfl fun t _ => ?_
  congr 1
  · congr 1; funext a; match a with | ⟨0, _⟩ => rfl | ⟨1, _⟩ => rfl
  · congr 1; funext a; match a with | ⟨0, _⟩ => rfl | ⟨1, _⟩ => rfl

/-- The gradient window's array when the grid starts: the reshaped argument. -/
theorem V_grad (c : Dev nD) : V m c main_v0 = grad m c := by
  unfold V
  after_results <;> rfl

theorem index0 : ∀ t : Fin cfg0.N, win0_0.index t 0 = 0 ∧ win0_0.index t 1 = t.val := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- The activation block at point `t` is columns `256 t … 256 t + 255` of the argument. -/
theorem iblk0_apply (c : Dev nD) (t : Fin cfg0.N) (a : Fin 1920) (b : Fin 256) (d : Fin 1792) (hd : d.val = 256 * t.val + b.val) :
    (iblk m c 0 t : FVec Ideal S1920x256 .bf16) (ix2 (n0 := 1920) (n1 := 256) a b) = act m c (ix2 (n0 := 1920) (n1 := 1792) a d) := by
  unfold iblk
  rw [View.read_apply]
  show V m c main_arg0 _ = act m c _
  rw [V_main_arg0]
  show act m c _ = act m c _
  congr 1
  funext e
  apply Fin.ext
  match e with
  | ⟨0, _⟩ => show win0_0.index t 0 * 1920 + 1 * a.val = a.val; rw [(index0 t).1]; omega
  | ⟨1, _⟩ => show win0_0.index t 1 * 256 + 1 * b.val = d.val; rw [(index0 t).2, hd]; omega

/-- The gradient block at every point is the whole reshaped argument. -/
theorem iblk1_apply (c : Dev nD) (t : Fin cfg0.N) (a : Fin 1920) (b : Fin 2304) :
    (iblk m c 1 t : FVec Ideal S1920x2304 .bf16) (ix2 (n0 := 1920) (n1 := 2304) a b) = grad m c (ix2 (n0 := 1920) (n1 := 2304) a b) := by
  unfold iblk
  rw [View.read_apply]
  show V m c main_v0 _ = grad m c _
  rw [V_grad]
  show grad m c _ = grad m c _
  congr 1
  funext e
  apply Fin.ext
  match e with
  | ⟨0, _⟩ => show win0_1.index t 0 * 1920 + 1 * a.val = a.val; rw [(index1 t).1]; omega
  | ⟨1, _⟩ => show win0_1.index t 1 * 2304 + 1 * b.val = b.val; rw [(index1 t).2]; omega

/-- Point `t` writes back rows `256 t … 256 t + 255` of `dW`. -/
theorem flushed_eq (c : Dev nD) (t : Fin cfg0.N) :
    (dats m 0 c).flushed 2 t = ((cfg0.win 2).blk t).view.read (Elt Ideal) (dW (act m c) (grad m c)) := by
  rw [flushed2]
  unfold out0_2
  rw [View.canon_unit_zero hz, View.ld_unit_zero (S := S1920x256) hz, View.ld_unit_zero (S := S1920x2304) hz]
  funext j
  rw [View.read_apply]
  show k0_pay1 (F := Ideal) (iblk m c 0 t) (iblk m c 1 t) (fun a => j a) = dW (act m c) (grad m c) _
  have h0 : (j 0).val < 256 := (j 0).isLt
  have hN : t.val < 7 := lt_of_lt_of_eq t.isLt N_0
  refine (pay_apply _ _ _).trans ?_
  unfold dW
  refine Finset.sum_congr rfl fun k _ => ?_
  refine congrArg₂ (· * ·) ((iblk0_apply m c t k _ ⟨256 * t.val + (j 0).val, by omega⟩ rfl).trans ?_)
    ((iblk1_apply m c t k _).trans ?_)
  · congr 1; funext e; apply Fin.ext
    match e with
    | ⟨0, _⟩ => rfl
    | ⟨1, _⟩ => show 256 * t.val + (j 0).val = win0_2.index t 0 * 256 + 1 * (j 0).val; rw [(index2 t).1]; omega
  · congr 1; funext e; apply Fin.ext
    match e with
    | ⟨0, _⟩ => rfl
    | ⟨1, _⟩ => show (j 1).val = win0_2.index t 1 * 2304 + 1 * (j 1).val; rw [(index2 t).2]; omega

/-- The seven blocks cover the array, so it ends holding `dW`. -/
theorem final2 (c : Dev nD) : (dats m 0 c).arrAt 2 cfg0.N = dW (act m c) (grad m c) :=
  (dats m 0 c).arrAt_eq_of_cover 2 (dW (act m c) (grad m c)) (fun t _ => flushed_eq m c t) fun i => by
    have h0 : (i 0 : Nat) < 1792 := (i 0).isLt
    have h1 : (i 1 : Nat) < 2304 := (i 1).isLt
    have hN : cfg0.N = 7 := N_0
    obtain ⟨t, ht⟩ : ∃ t : Fin cfg0.N, t.val = (i 0 : Nat) / 256 := ⟨⟨(i 0 : Nat) / 256, by omega⟩, rfl⟩
    refine ⟨t, flush0_2 t, ?_⟩
    show i ∈ ((View.whole main_v1).slice (win0_2.rect t)).set
    rw [View.set_slice_whole, Rect.mem_set_unit]
    intro a
    have hi := index2 t
    match a with
    | ⟨0, _⟩ =>
      show win0_2.index t 0 * 256 ≤ (i 0 : Nat) ∧ (i 0 : Nat) < win0_2.index t 0 * 256 + 256
      rw [hi.1, ht]; omega
    | ⟨1, _⟩ =>
      show win0_2.index t 1 * 2304 ≤ (i 1 : Nat) ∧ (i 1 : Nat) < win0_2.index t 1 * 2304 + 2304
      rw [hi.2]; omega

/-- The run, read: the result is `dW` of the arguments, which end unchanged. -/
theorem run : θ_run defs (onTc (τ := τ) (main (F := Ideal))) ⟨m, fun _ => 0, ρ⟩ fun r => ∀ c : Dev nD,
      r.2.mem ((c : Thread nD τ).loc main_v1) = dW (act m c) (grad m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2⟩) (run_blocks m ρ)

end Cert.DwIdeal.Value

namespace Cert.DwRefIdeal.Value

open Cert.DwRefIdeal Cert.DwRefIdeal.Gen

/-- The reference's `dot_general` is the same sum over the tokens. -/
theorem dot_eq (x : FVec Ideal S1920x1792 .bf16) (g : FVec Ideal S1920x2304 .bf16) :
    (Host.dotGeneral dot_S1920x1792_S1920x2304_S1792x2304_0_0_1_1_n_n none x g : FVec Ideal S1792x2304 .f32)
      = Cert.DwIdeal.Value.dW x g := by
  funext i
  simp only [Host.dotGeneral]
  refine (Ideal.dotGeneral_apply _ none .single _ _ _).trans ?_
  unfold Cert.DwIdeal.Value.dW
  rw [← Equiv.sum_comp (contrEquiv1 dot_S1920x1792_S1920x2304_S1792x2304_0_0_1_1_n_n 1920 rfl rfl).symm]
  refine Finset.sum_congr rfl fun t _ => ?_
  congr 1
  · congr 1; funext a; match a with | ⟨0, _⟩ => rfl | ⟨1, _⟩ => rfl
  · congr 1; funext a; match a with | ⟨0, _⟩ => rfl | ⟨1, _⟩ => rfl

end Cert.DwRefIdeal.Value

namespace Cert.Proof.DwClaims

/-- The dW reference ends with its arguments unchanged and every counter at zero. -/
theorem frame_ref : Cert.quiescent_DwRefIdeal := fun m ρ _ =>
  (θ_run Cert.DwRefIdeal.defs _ _).mono (fun r h => ⟨fun c => (h c).2,
      Idealize.ShloMosaic.sem_eq_zero_of_no_sems (by decide) r.2⟩)
    (Cert.DwRefIdeal.Value.run (F := Ideal) m ρ)

/-- dW of the kernel equals dW of the reference, entry by entry over the extended reals, from equal arguments. -/
theorem algebraic : Cert.algebraic_DwIdeal_DwRefIdeal := by
  intro m ρ m' ρ' _ hagree
  refine ⟨fun c => Cert.DwIdeal.Value.dW (Cert.DwIdeal.Value.act m c) (Cert.DwIdeal.Value.grad m c),
    Cert.DwIdeal.Value.run m ρ, ?_⟩
  refine (θ_run Cert.DwRefIdeal.defs _ _).mono (fun _ h c => ?_) (Cert.DwRefIdeal.Value.run (F := Ideal) m' ρ')
  refine ⟨(h c).1.trans ?_, (h c).2⟩
  refine (Cert.DwRefIdeal.Value.dot_eq _ _).trans ?_
  obtain rfl : c = 0 := Subsingleton.elim _ _
  rw [(hagree 0).1, (hagree 0).2]

end Cert.Proof.DwClaims

end
-- ==== Proof.K.Scale.lean ====
/- The scale of a block as a number: the kernel's search of the exponent field by comparisons, and the
   reference's least power of two above, on the extended reals. -/
module

public import Idealize.ShloMosaic.Init
public import Idealize.ShloMosaic.PureOps.Ideal.Laws

@[expose] public section

noncomputable section

namespace Cert.Scale

open Idealize.ShloMosaic

/-- The float32 whose exponent field is `k` and whose other bits are zero. -/
def field (k : Nat) : EReal := Ideal.ofBits .f32 (BitVec.ofNat 32 (k * 8388608))

/-- It is `2 ^ (k - 127)` for the exponent fields of the normal numbers. -/
theorem field_eq (k : Nat) (h1 : 1 ≤ k) (h2 : k ≤ 254) : field k = (((2 : ℝ) ^ ((k : ℤ) - 127) : ℝ) : EReal) := by
  have e : (k * 8388608) % 2 ^ 32 = k * 8388608 := Nat.mod_eq_of_lt (by omega)
  have hneg : (BitVec.extractLsb' (8 + 23) 1 (BitVec.ofNat 32 (k * 8388608)) == 1#1) = false := by
    rw [beq_eq_false_iff_ne]
    intro h
    have h' := congrArg BitVec.toNat h
    rw [BitVec.extractLsb'_toNat, BitVec.toNat_ofNat, e, Nat.shiftRight_eq_div_pow] at h'
    norm_num at h'
    omega
  have hex : (BitVec.extractLsb' 23 8 (BitVec.ofNat 32 (k * 8388608))).toNat = k := by
    rw [BitVec.extractLsb'_toNat, BitVec.toNat_ofNat, e, Nat.shiftRight_eq_div_pow]
    omega
  have hfr : (BitVec.extractLsb' 0 23 (BitVec.ofNat 32 (k * 8388608))).toNat = 0 := by
    rw [BitVec.extractLsb'_toNat, BitVec.toNat_ofNat, e, Nat.shiftRight_eq_div_pow]
    omega
  unfold field
  show Ideal.ieee 8 23 (BitVec.ofNat 32 (k * 8388608)) = _
  unfold Ideal.ieee
  dsimp only
  rw [hneg, hex, hfr, if_neg (by omega), if_neg (by omega)]
  congr 1
  rw [if_neg (by simp), one_mul]
  have : ((2 ^ 23 + 0 : Nat) : ℝ) = (2 : ℝ) ^ (23 : ℤ) := by norm_num
  rw [this, ← zpow_add₀ (by norm_num)]
  congr 1
  norm_num

/-- The exponent field `0` gives zero. -/
theorem field_zero : field 0 = 0 := by
  simp [field, Ideal.ofBits, Ideal.ieee]

/-- A larger exponent field gives a larger number. -/
theorem field_lt {j k : Nat} (h1 : 1 ≤ j) (h : j < k) (h2 : k ≤ 254) : field j < field k := by
  rw [field_eq j h1 (by omega), field_eq k (by omega) h2]
  exact EReal.coe_lt_coe_iff.2 (zpow_lt_zpow_right₀ (by norm_num) (by omega))

theorem field_le {j k : Nat} (h1 : 1 ≤ j) (h : j ≤ k) (h2 : k ≤ 254) : field j ≤ field k := by
  rcases Nat.lt_or_eq_of_le h with h | h
  · exact (field_lt h1 h h2).le
  · rw [h]

/-! ## The kernel's search -/

/-- One step of the search: the bit `s` is added where the number it gives is not above `a`. -/
def step (a : EReal) (b s : BitVec 32) : BitVec 32 :=
  Scalar.select (Ideal.cmp .oge a (Ideal.ofBits .f32 (b + s))) (b + s) b

/-- The eight steps from zero. -/
def search (a : EReal) : BitVec 32 :=
  step a (step a (step a (step a (step a (step a (step a (step a 0#32 1073741824#32) 536870912#32) 268435456#32)
    134217728#32) 67108864#32) 33554432#32) 16777216#32) 8388608#32

/-- What the kernel makes of the search's result: an infinity's field from `2 ^ 126` on; the field of one half in
    place of zero's and an infinity's. -/
def fix (a : EReal) (b : BitVec 32) : BitVec 32 :=
  Scalar.select
    (BitVec.ofBool (Scalar.select (Ideal.cmp .oge a (Ideal.ofBits .f32 0x7E800000#32)) 2139095040#32 b == 0#32)
      ||| BitVec.ofBool (Scalar.select (Ideal.cmp .oge a (Ideal.ofBits .f32 0x7E800000#32)) 2139095040#32 b == 2139095040#32))
    1056964608#32
    (Scalar.select (Ideal.cmp .oge a (Ideal.ofBits .f32 0x7E800000#32)) 2139095040#32 b)

/-- The kernel's scale for the quotient `a` of a block's largest magnitude. -/
def scale (a : EReal) : EReal := Ideal.ofBits .f32 (fix a (search a) + 8388608#32)

/-- The factor the kernel multiplies the block by. -/
def inv (a : EReal) : EReal := Ideal.ofBits .f32 (2122317824#32 - fix a (search a))

/-- The state of the search with `s` fields left: the field `k` found is not above `a`, and the field `k + s` is. -/
def Inv (a : EReal) (b : BitVec 32) (s : Nat) : Prop :=
  ∃ k : Nat, b = BitVec.ofNat 32 (k * 8388608) ∧ k + s ≤ 256 ∧ (k = 0 ∨ field k ≤ a) ∧ (k + s = 256 ∨ a < field (k + s))

theorem cmp_oge_iff (x y : EReal) : (Ideal.cmp .oge x y = 1) ↔ y ≤ x := by
  simp only [Ideal.cmp]
  by_cases h : y ≤ x <;> simp [h]

theorem cmp_ogt_iff (x y : EReal) : (Ideal.cmp .ogt x y = 1) ↔ y < x := by
  simp only [Ideal.cmp]
  by_cases h : y < x <;> simp [h]

theorem cmp_olt_iff (x y : EReal) : (Ideal.cmp .olt x y = 1) ↔ x < y := by
  simp only [Ideal.cmp]
  by_cases h : x < y <;> simp [h]

/-- A step halves the fields left. -/
theorem step_inv {a : EReal} {b : BitVec 32} (s : Nat) (h : Inv a b (2 * s)) (hs : 1 ≤ s) :
    Inv a (step a b (BitVec.ofNat 32 (s * 8388608))) s := by
  obtain ⟨k, hb, hk, hlo, hhi⟩ := h
  have hadd : b + BitVec.ofNat 32 (s * 8388608) = BitVec.ofNat 32 ((k + s) * 8388608) := by
    rw [hb, ← BitVec.ofNat_add, Nat.add_mul]
  unfold step Scalar.select
  rw [hadd]
  show Inv a (if Ideal.cmp .oge a (field (k + s)) = 1 then _ else _) s
  by_cases hc : field (k + s) ≤ a
  · rw [if_pos ((cmp_oge_iff _ _).2 hc)]
    refine ⟨k + s, rfl, by omega, .inr hc, ?_⟩
    have : k + s + s = k + 2 * s := by omega
    rw [this]; exact hhi
  · rw [if_neg (fun h => hc ((cmp_oge_iff _ _).1 h))]
    exact ⟨k, hb, by omega, hlo, .inr (not_le.1 hc)⟩

/-- The search ends at the field `k` of `a`. -/
theorem search_inv (a : EReal) : Inv a (search a) 1 := by
  have h0 : Inv a 0#32 (2 * 128) := ⟨0, rfl, by omega, .inl rfl, .inl rfl⟩
  have h1 : Inv a _ (2 * 64) := step_inv 128 h0 (by omega)
  have h2 : Inv a _ (2 * 32) := step_inv 64 h1 (by omega)
  have h3 : Inv a _ (2 * 16) := step_inv 32 h2 (by omega)
  have h4 : Inv a _ (2 * 8) := step_inv 16 h3 (by omega)
  have h5 : Inv a _ (2 * 4) := step_inv 8 h4 (by omega)
  have h6 : Inv a _ (2 * 2) := step_inv 4 h5 (by omega)
  have h7 : Inv a _ (2 * 1) := step_inv 2 h6 (by omega)
  exact step_inv 1 h7 (by omega)

theorem top_eq : Ideal.ofBits .f32 0x7E800000#32 = field 253 := rfl
theorem low_eq : Ideal.ofBits .f32 0x00800000#32 = field 1 := rfl
theorem one_eq : Ideal.ofBits .f32 0x3F800000#32 = field 127 := rfl

theorem field_127 : field 127 = 1 := by
  rw [field_eq 127 (by omega) (by omega)]; norm_num

/-- From `2 ^ 126` on the scale and the factor are one. -/
theorem fix_large {a : EReal} (h : field 253 ≤ a) (b : BitVec 32) : fix a b = 1056964608#32 := by
  have hc : Ideal.cmp .oge a (Ideal.ofBits .f32 0x7E800000#32) = 1 := (cmp_oge_iff _ _).2 h
  unfold fix
  simp only [Scalar.select, if_pos hc]
  rfl

/-- Below `2 ^ -126` too. -/
theorem fix_small {a : EReal} (h : a < field 253) : fix a 0#32 = 1056964608#32 := by
  have hc : ¬ Ideal.cmp .oge a (Ideal.ofBits .f32 0x7E800000#32) = 1 := fun hh => absurd ((cmp_oge_iff _ _).1 hh) (not_le.2 h)
  unfold fix
  simp only [Scalar.select, if_neg hc]
  rfl

/-- Between, the field stays. -/
theorem fix_mid {a : EReal} (h : a < field 253) (k : Nat) (h1 : 1 ≤ k) (h2 : k ≤ 252) :
    fix a (BitVec.ofNat 32 (k * 8388608)) = BitVec.ofNat 32 (k * 8388608) := by
  have hc : ¬ Ideal.cmp .oge a (Ideal.ofBits .f32 0x7E800000#32) = 1 := fun hh => absurd ((cmp_oge_iff _ _).1 hh) (not_le.2 h)
  have ht : (BitVec.ofNat 32 (k * 8388608)).toNat = k * 8388608 := by
    rw [BitVec.toNat_ofNat]; exact Nat.mod_eq_of_lt (by omega)
  have hz : (BitVec.ofNat 32 (k * 8388608) == 0#32) = false := by
    rw [beq_eq_false_iff_ne]
    intro h'
    have := congrArg BitVec.toNat h'
    rw [ht] at this
    norm_num at this
    omega
  have hi : (BitVec.ofNat 32 (k * 8388608) == 2139095040#32) = false := by
    rw [beq_eq_false_iff_ne]
    intro h'
    have := congrArg BitVec.toNat h'
    rw [ht] at this
    norm_num at this
    omega
  unfold fix
  simp only [Scalar.select, if_neg hc, hz, hi]
  rfl

/-- The kernel's scale and factor in the three ranges of `a`. -/
theorem kernel_cases (a : EReal) :
    ((a < field 1 ∨ field 253 ≤ a) ∧ scale a = field 127 ∧ inv a = field 127) ∨
    (∃ k, 1 ≤ k ∧ k ≤ 252 ∧ field k ≤ a ∧ a < field (k + 1) ∧ scale a = field (k + 1) ∧ inv a = field (253 - k)) := by
  by_cases hl : field 253 ≤ a
  · refine .inl ⟨.inr hl, ?_, ?_⟩
    · unfold scale; rw [fix_large hl]; rfl
    · unfold inv; rw [fix_large hl]; rfl
  · have hl' := not_le.1 hl
    obtain ⟨k, hb, hk, hlo, hhi⟩ := search_inv a
    by_cases h0 : k = 0
    · subst h0
      refine .inl ⟨.inl ?_, ?_, ?_⟩
      · rcases hhi with h | h
        · omega
        · exact h
      · unfold scale; rw [hb, show BitVec.ofNat 32 (0 * 8388608) = 0#32 from rfl, fix_small hl']; rfl
      · unfold inv; rw [hb, show BitVec.ofNat 32 (0 * 8388608) = 0#32 from rfl, fix_small hl']; rfl
    · have hlo' : field k ≤ a := hlo.resolve_left h0
      have hk252 : k ≤ 252 := by
        by_contra hcon
        by_cases h255 : k = 255
        · subst h255
          have : field 255 = ⊤ := by simp [field, Ideal.ofBits, Ideal.ieee]
          rw [this, top_le_iff] at hlo'
          exact hl (hlo' ▸ le_top)
        · exact hl (le_trans (field_le (by omega) (by omega) (by omega)) hlo')
      refine .inr ⟨k, by omega, hk252, hlo', ?_, ?_, ?_⟩
      · rcases hhi with h | h
        · omega
        · exact h
      · unfold scale
        rw [hb, fix_mid hl' k (by omega) hk252]
        unfold field
        refine congrArg (Ideal.ofBits .f32) ?_
        rw [show (8388608#32 : BitVec 32) = BitVec.ofNat 32 8388608 from rfl, ← BitVec.ofNat_add, Nat.add_mul, Nat.one_mul]
      · unfold inv
        rw [hb, fix_mid hl' k (by omega) hk252]
        unfold field
        refine congrArg (Ideal.ofBits .f32) ?_
        apply BitVec.eq_of_toNat_eq
        rw [BitVec.toNat_sub, BitVec.toNat_ofNat, BitVec.toNat_ofNat, BitVec.toNat_ofNat,
          Nat.mod_eq_of_lt (show k * 8388608 < 2 ^ 32 by omega),
          Nat.mod_eq_of_lt (show 2122317824 < 2 ^ 32 by omega),
          Nat.mod_eq_of_lt (show (253 - k) * 8388608 < 2 ^ 32 by omega)]
        omega

/-! ## The reference's least power of two above -/

/-- The reference's power of two number `j`. -/
def power (j : Nat) : EReal := Ideal.exp2 ((((BitVec.ofNat 32 j).toInt : ℝ) : EReal) - Ideal.ofBits .f32 0x42FA0000#32)

theorem power_eq (j : Nat) (h : j < 252) : power j = field (j + 2) := by
  have h1 : (BitVec.ofNat 32 j).toInt = (j : ℤ) := by
    rw [BitVec.toInt_eq_toNat_of_lt] <;> rw [BitVec.toNat_ofNat, Nat.mod_eq_of_lt (by omega)]
    omega
  have h2 : Ideal.ofBits .f32 0x42FA0000#32 = ((125 : ℝ) : EReal) := by
    simp [Ideal.ofBits, Ideal.ieee, -EReal.coe_mul]; norm_num
  unfold power
  rw [h1, h2, ← EReal.coe_sub, field_eq _ (by omega) (by omega)]
  show ((Real.rpow 2 _ : ℝ) : EReal) = _
  congr 1
  rw [show (((j : ℤ) : ℝ) - 125) = (((j : ℤ) - 125 : ℤ) : ℝ) by push_cast; ring]
  show (2 : ℝ) ^ (((j : ℤ) - 125 : ℤ) : ℝ) = _
  rw [Real.rpow_intCast]
  congr 1
  push_cast
  ring

/-- The least of the powers above `a` (`2 ^ 126` where none is). -/
def least (a : EReal) : EReal :=
  (Finset.univ : Finset (Fin 252)).fold min (Ideal.ofBits .f32 0x7F800000#32) fun j =>
    Scalar.select (Ideal.cmp .ogt (power j.val) a) (power j.val) (Ideal.ofBits .f32 0x7E800000#32)

/-- The reference's scale. -/
def refScale (a : EReal) : EReal :=
  Scalar.select (Ideal.cmp .olt a (Ideal.ofBits .f32 0x00800000#32) ||| Ideal.cmp .oge a (Ideal.ofBits .f32 0x7E800000#32))
    (Ideal.ofBits .f32 0x3F800000#32) (least a)

theorem least_eq (a : EReal) (k : Nat) (h1 : 1 ≤ k) (h2 : k ≤ 252) (hlo : field k ≤ a) (hhi : a < field (k + 1)) :
    least a = field (k + 1) := by
  apply le_antisymm
  · refine (Finset.fold_min_le _).2 (.inr ⟨⟨k - 1, by omega⟩, Finset.mem_univ _, ?_⟩)
    have hp : power (k - 1) = field (k + 1) := by
      rw [power_eq _ (by omega)]; congr 1; omega
    simp only [hp]
    rw [Scalar.select, if_pos ((cmp_ogt_iff _ _).2 hhi)]
  · refine (Finset.le_fold_min _).2 ⟨?_, fun j _ => ?_⟩
    · have : Ideal.ofBits .f32 0x7F800000#32 = ⊤ := by simp [Ideal.ofBits, Ideal.ieee]
      rw [this]; exact le_top
    · have hj := j.isLt
      rw [power_eq _ hj, Scalar.select]
      split
      next h =>
        have h' := (cmp_ogt_iff _ _).1 h
        refine field_le (by omega) ?_ (by omega)
        by_contra hcon
        exact absurd (lt_of_lt_of_le h' (field_le (by omega) (by omega) (by omega))) (not_lt.2 hlo)
      next h => rw [top_eq]; exact field_le (by omega) (by omega) (by omega)

theorem refScale_outside {a : EReal} (h : a < field 1 ∨ field 253 ≤ a) : refScale a = field 127 := by
  unfold refScale
  rw [low_eq, top_eq, one_eq]
  rcases h with h | h
  · rw [(cmp_olt_iff _ _).2 h, Scalar.select, if_pos (by generalize Ideal.cmp .oge a (field 253) = z; revert z; decide)]
  · rw [(cmp_oge_iff _ _).2 h, Scalar.select, if_pos (by generalize Ideal.cmp .olt a (field 1) = z; revert z; decide)]

theorem refScale_inside {a : EReal} (k : Nat) (h1 : 1 ≤ k) (h2 : k ≤ 252) (hlo : field k ≤ a) (hhi : a < field (k + 1)) :
    refScale a = field (k + 1) := by
  have ha : Ideal.cmp .olt a (field 1) = 0 := by
    have : ¬ Ideal.cmp .olt a (field 1) = 1 := fun h =>
      absurd ((cmp_olt_iff _ _).1 h) (not_lt.2 (le_trans (field_le (by omega) h1 (by omega)) hlo))
    revert this
    generalize Ideal.cmp .olt a (field 1) = z
    revert z; decide
  have hb : Ideal.cmp .oge a (field 253) = 0 := by
    have : ¬ Ideal.cmp .oge a (field 253) = 1 := fun h =>
      absurd ((cmp_oge_iff _ _).1 h) (not_le.2 (lt_of_lt_of_le hhi (field_le (by omega) (by omega) (by omega))))
    revert this
    generalize Ideal.cmp .oge a (field 253) = z
    revert z; decide
  unfold refScale
  rw [low_eq, top_eq, one_eq]
  rw [ha, hb, Scalar.select, if_neg (by decide), least_eq a k h1 h2 hlo hhi]

/-- The kernel's search finds the least power of two above. -/
theorem scale_eq (a : EReal) : scale a = refScale a := by
  rcases kernel_cases a with ⟨h, hs, _⟩ | ⟨k, h1, h2, hlo, hhi, hs, _⟩
  · rw [hs, refScale_outside h]
  · rw [hs, refScale_inside k h1 h2 hlo hhi]

/-- The kernel's factor is the reciprocal of the scale. -/
theorem inv_eq (a : EReal) : inv a = Ideal.div (Ideal.ofBits .f32 0x3F800000#32) (refScale a) := by
  rw [one_eq, field_127]
  rcases kernel_cases a with ⟨h, _, hi⟩ | ⟨k, h1, h2, hlo, hhi, _, hi⟩
  · rw [hi, refScale_outside h, field_127]
    unfold Ideal.div
    rw [if_neg one_ne_zero, one_mul, inv_one]
  · rw [hi, refScale_inside k h1 h2 hlo hhi, field_eq _ (by omega) (by omega), field_eq _ (by omega) (by omega)]
    have hpos : (0 : ℝ) < (2 : ℝ) ^ (((k + 1 : Nat) : ℤ) - 127) := zpow_pos (by norm_num) _
    unfold Ideal.div
    rw [if_neg (by rw [EReal.coe_eq_zero]; exact hpos.ne'), one_mul, ← EReal.coe_inv, ← zpow_neg]
    congr 2
    omega

end Cert.Scale

end
-- ==== Proof.K.DxQuant.lean ====
/-
  THE dx CALL'S QUANTISER, as the kernel writes it: for each of the 14 groups of 128 columns of a tile, the largest
  magnitude of every row, a bit-by-bit search for the power of two above it, the codes and the scale. The kernel spells the
  same computation out once per group; here it is one function of the group's number, and each spelling equals it.
-/
module

public import proofs.«01_k».proof.Proof.Gen.DxIdeal.Value
public import proofs.«01_k».proof.Proof.K.Scale
public import proofs.«01_k».proof.Proof.K.DwValue
public import proofs.«01_k».proof.Defs
public import Idealize.ShloMosaic.PureOps.Ideal.Laws
public import Idealize.ShloMosaic.Lib.ValueIdxCore
public import Idealize.ShloMosaic.Lib.Quiescent

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DxIdeal.Value

open Cert.DxIdeal Cert.DxIdeal.Gen

variable {F : FTy → Type} [FloatOps F]

/-- Columns `128 b … 128 b + 127` lie inside a tile. -/
theorem slices (b : Fin 14) : S384x1792.Slices ![0, 128 * b.val] S384x128 :=
  (by decide : ∀ b : Fin 14, S384x1792.Slices ![0, 128 * b.val] S384x128) b

/-- Columns `128 b … 128 b + 127` lie inside the code block, as the stores name them. -/
theorem inb (b : Fin 14) : ∀ a, (![0, 128 * b.val] : Fin 2 → Nat) a + (![384, 128] : Fin 2 → Nat) a ≤ S384x1792.size a :=
  (by decide : ∀ b : Fin 14, ∀ a, (![0, 128 * b.val] : Fin 2 → Nat) a + (![384, 128] : Fin 2 → Nat) a ≤ S384x1792.size a) b

/-- Group `b` of a tile: its columns `128 b … 128 b + 127`. -/
def blkV (T : FVec F S384x1792 .f32) (b : Fin 14) : FVec F S384x128 .f32 :=
  extractStridedSlice S384x128 ![0, 128 * b.val] T (slices b)

/-- The largest magnitude of every row of a group, over 57344 (times the constant nearest its inverse). -/
def amaxV (x : FVec F S384x128 .f32) : FVec F S384x1 .f32 :=
  mulf (shapeCast S384x1 (multiReduction .maximumf [1] S384 (absf x) 0xFF800000#32 reduces_S384x128_S384 (.inl rfl) rfl) shapeCasts_S384_S384x1)
    (broadcast S384x1 (Scalar.ofBits .f32 0x37924925#32))

/-- One step of the search: keep the bit `s` when the number it makes is still at most `a`. -/
def stepV (a : FVec F S384x1 .f32) (v : IVec S384x1 32) (s : BitVec 32) : IVec S384x1 32 :=
  select (cmpf .oge a (bitcastToFloat .f32 (addi v (broadcast S384x1 s)))) (addi v (broadcast S384x1 s)) v

/-- The search over the eight exponent bits. -/
def searchV (a : FVec F S384x1 .f32) : IVec S384x1 32 :=
  stepV a (stepV a (stepV a (stepV a (stepV a (stepV a (stepV a (stepV a (broadcast S384x1 0#32) 1073741824#32) 536870912#32)
    268435456#32) 134217728#32) 67108864#32) 33554432#32) 16777216#32) 8388608#32

/-- The exponent with the top end replaced. -/
def topV (a : FVec F S384x1 .f32) (v : IVec S384x1 32) : IVec S384x1 32 :=
  select (cmpf .oge a (broadcast S384x1 (Scalar.ofBits .f32 0x7E800000#32))) (broadcast S384x1 2139095040#32) v

/-- The exponent with both ends replaced: where there is no normal power of two to use, that of one half. -/
def fixV (v : IVec S384x1 32) : IVec S384x1 32 :=
  select (ori (cmpi .eq v (broadcast S384x1 0#32)) (cmpi .eq v (broadcast S384x1 2139095040#32))) (broadcast S384x1 1056964608#32) v

/-- A group's scale: the power of two one above the exponent found. -/
def scaleV (a : FVec F S384x1 .f32) : FVec F S384x1 .f32 :=
  bitcastToFloat .f32 (addi (fixV (topV a (searchV a))) (broadcast S384x1 8388608#32))

/-- The inverse of a group's scale, by its exponent. -/
def invV (a : FVec F S384x1 .f32) : FVec F S384x1 .f32 :=
  bitcastToFloat .f32 (subi (broadcast S384x1 2122317824#32) (fixV (topV a (searchV a))))

/-- A group's codes: the values times the inverse scale, clipped to ±57344, rounded to eight bits. -/
def codesV (x : FVec F S384x128 .f32) (a : FVec F S384x1 .f32) : FVec F S384x128 .fp8e5m2 :=
  truncf .fp8e5m2 (minimumf (broadcast S384x128 (Scalar.ofBits .f32 0x47600000#32))
    (maximumf (broadcast S384x128 (Scalar.ofBits .f32 0xC7600000#32))
      (mulf x (broadcastTo S384x128 (invV a) broadcasts_S384x1_S384x128)))) bitsLt_fp8e5m2_f32

/-- The number of each of the 14 lanes. -/
def laneV : IVec S384x14 32 := iota .tc S384x14 32 [1] iota_S384x14_d1_w32

/-- Lane `k` of the scales overwritten by `s`. -/
def lanesV (acc : FVec F S384x14 .f32) (k : BitVec 32) (s : FVec F S384x1 .f32) : FVec F S384x14 .f32 :=
  select (cmpi .eq laneV (broadcast S384x14 k))
    (broadcastTo S384x14 (shapeCast S384x1 s shapeCasts_S384x1_S384x1) broadcasts_S384x1_S384x14) acc

/-- Group `b`'s codes of a tile. -/
def codesT (T : FVec F S384x1792 .f32) (b : Fin 14) : FVec F S384x128 .fp8e5m2 := codesV (blkV T b) (amaxV (blkV T b))
/-- Group `b`'s scales of a tile. -/
def scaleT (T : FVec F S384x1792 .f32) (b : Fin 14) : FVec F S384x1 .f32 := scaleV (amaxV (blkV T b))

/-- The kernel's store of group `b`'s codes. -/
def pieceT (T : FVec F S384x1792 .f32) (b : Fin 14) : View.Piece (Elt F) S384x1792 .fp8e5m2 :=
  ⟨Rect.unit (s := S384x1792) ![0, 128 * b.val] ![384, 128] (inb b), codesT T b⟩

/-- The 14 stores, the last first. -/
def piecesT (T : FVec F S384x1792 .f32) : List (View.Piece (Elt F) S384x1792 .fp8e5m2) :=
  [pieceT T 13, pieceT T 12, pieceT T 11, pieceT T 10, pieceT T 9, pieceT T 8, pieceT T 7, pieceT T 6, pieceT T 5,
   pieceT T 4, pieceT T 3, pieceT T 2, pieceT T 1, pieceT T 0]

/-- The scales of a tile, lane after lane. -/
def lanesT (T : FVec F S384x1792 .f32) : FVec F S384x14 .f32 :=
  lanesV (lanesV (lanesV (lanesV (lanesV (lanesV (lanesV (lanesV (lanesV (lanesV (lanesV (lanesV (lanesV (lanesV k0_pay13
    0#32 (scaleT T 0)) 1#32 (scaleT T 1)) 2#32 (scaleT T 2)) 3#32 (scaleT T 3)) 4#32 (scaleT T 4)) 5#32 (scaleT T 5))
    6#32 (scaleT T 6)) 7#32 (scaleT T 7)) 8#32 (scaleT T 8)) 9#32 (scaleT T 9)) 10#32 (scaleT T 10)) 11#32 (scaleT T 11))
    12#32 (scaleT T 12)) 13#32 (scaleT T 13)

/-! ## The kernel's fourteen spellings of the codes -/

section Codes
variable (T : FVec F S384x1792 .f32)

theorem codes0 (v6 : FVec F S384x1 .f32) (v15 v32 v33 : FVec F S384x1792 .f32) (v43 : Vec F S384x1792 .bf16) :
    k0_pay19 (k0_pay14 v6 v15 v32 v33 v43) (k0_pay15 v6 v15 v32 v33 v43) (k0_pay16 v6 v15 v32 v33 v43) 67108864#32
      = codesT (k0_pay11 v6 v15 v32 v33 v43) 0 := rfl
theorem codes1 : k0_pay26 (k0_pay21 T) (k0_pay22 T) (k0_pay23 T) k0_pay24 = codesT T 1 := rfl
theorem codes2 : k0_pay36 (k0_pay28 T) (k0_pay32 (k0_pay29 T) k0_pay30 k0_pay31) (k0_pay33 (k0_pay29 T) k0_pay30 k0_pay31) k0_pay34 = codesT T 2 := rfl
theorem codes3 : k0_pay45 (k0_pay38 T) (k0_pay39 T) (k0_pay40 T) (k0_pay41 T) (k0_pay42 T) = codesT T 3 := rfl
theorem codes4 : k0_pay53 (k0_pay47 T) (k0_pay48 T) (k0_pay49 T) (k0_pay50 T) (k0_pay51 T) = codesT T 4 := rfl
theorem codes5 : k0_pay62 (k0_pay55 T) (k0_pay58 (k0_pay56 T) k0_pay57) (k0_pay59 (k0_pay56 T) k0_pay57) (k0_pay60 (k0_pay56 T) k0_pay57) = codesT T 5 := rfl
theorem codes6 : k0_pay71 (k0_pay69 (k0_pay64 T) (k0_pay65 T) (k0_pay66 T) 134217728#32) k0_pay70 = codesT T 6 := rfl
theorem codes7 : k0_pay78 (k0_pay73 T) (k0_pay74 T) (k0_pay75 T) k0_pay76 = codesT T 7 := rfl
theorem codes8 : k0_pay86 (k0_pay80 T) (k0_pay83 (k0_pay81 T) k0_pay82) (k0_pay84 (k0_pay81 T) k0_pay82) = codesT T 8 := rfl
theorem codes9 : k0_pay96 (k0_pay95 (k0_pay88 T) (k0_pay89 T) (k0_pay90 T) (k0_pay91 T) (k0_pay92 T)) (Scalar.ofBits .f32 0xC7600000#32) (Scalar.ofBits .f32 0x47600000#32) = codesT T 9 := rfl
theorem codes10 : k0_pay104 (k0_pay98 T) (k0_pay99 T) (k0_pay100 T) (k0_pay101 T) (k0_pay102 T) = codesT T 10 := rfl
theorem codes11 : k0_pay110 (k0_pay106 T) (k0_pay108 (k0_pay107 T)) = codesT T 11 := rfl
theorem codes12 : k0_pay118 (k0_pay112 T) (k0_pay117 (k0_pay113 T) (k0_pay114 T) 268435456#32) = codesT T 12 := rfl
theorem codes13 : k0_pay125 (k0_pay120 T) (k0_pay121 T) (k0_pay122 T) k0_pay123 = codesT T 13 := rfl

end Codes

/-! ## The kernel's fourteen spellings of the scales -/

section Scales
variable (T : FVec F S384x1792 .f32) (acc : FVec F S384x14 .f32)

theorem lanes0 (v6 : FVec F S384x1 .f32) (v15 v32 v33 : FVec F S384x1792 .f32) (v43 : Vec F S384x1792 .bf16) :
    k0_pay20 laneV acc (k0_pay18 (k0_pay15 v6 v15 v32 v33 v43) (k0_pay16 v6 v15 v32 v33 v43) 67108864#32)
      = lanesV acc 0#32 (scaleT (k0_pay11 v6 v15 v32 v33 v43) 0) := rfl
theorem lanes1 : k0_pay27 laneV acc (k0_pay22 T) (k0_pay23 T) k0_pay24 = lanesV acc 1#32 (scaleT T 1) := rfl
theorem lanes2 : k0_pay37 laneV acc (k0_pay32 (k0_pay29 T) k0_pay30 k0_pay31) (k0_pay33 (k0_pay29 T) k0_pay30 k0_pay31) k0_pay34 = lanesV acc 2#32 (scaleT T 2) := rfl
theorem lanes3 : k0_pay46 laneV acc (k0_pay44 (k0_pay39 T) (k0_pay40 T) (k0_pay41 T) (k0_pay42 T)) = lanesV acc 3#32 (scaleT T 3) := rfl
theorem lanes4 : k0_pay54 laneV acc (k0_pay48 T) (k0_pay49 T) (k0_pay50 T) (k0_pay51 T) = lanesV acc 4#32 (scaleT T 4) := rfl
theorem lanes5 : k0_pay63 laneV acc (k0_pay58 (k0_pay56 T) k0_pay57) (k0_pay59 (k0_pay56 T) k0_pay57) (k0_pay60 (k0_pay56 T) k0_pay57) = lanesV acc 5#32 (scaleT T 5) := rfl
theorem lanes6 : k0_pay72 laneV acc (k0_pay68 (k0_pay65 T) (k0_pay66 T) 134217728#32) = lanesV acc 6#32 (scaleT T 6) := rfl
theorem lanes7 : k0_pay79 laneV acc (k0_pay74 T) (k0_pay75 T) k0_pay76 = lanesV acc 7#32 (scaleT T 7) := rfl
theorem lanes8 : k0_pay87 laneV acc (k0_pay83 (k0_pay81 T) k0_pay82) (k0_pay84 (k0_pay81 T) k0_pay82) = lanesV acc 8#32 (scaleT T 8) := rfl
theorem lanes9 : k0_pay97 laneV acc (k0_pay94 (k0_pay89 T) (k0_pay90 T) (k0_pay91 T) (k0_pay92 T)) = lanesV acc 9#32 (scaleT T 9) := rfl
theorem lanes10 : k0_pay105 laneV acc (k0_pay99 T) (k0_pay100 T) (k0_pay101 T) (k0_pay102 T) = lanesV acc 10#32 (scaleT T 10) := rfl
theorem lanes11 : k0_pay111 laneV acc (k0_pay108 (k0_pay107 T)) = lanesV acc 11#32 (scaleT T 11) := rfl
theorem lanes12 : k0_pay119 laneV acc (k0_pay116 (k0_pay113 T) (k0_pay114 T) 268435456#32) = lanesV acc 12#32 (scaleT T 12) := rfl
theorem lanes13 : k0_pay126 laneV acc (k0_pay121 T) (k0_pay122 T) k0_pay123 = lanesV acc 13#32 (scaleT T 13) := rfl

end Scales

end Cert.DxIdeal.Value

end
-- ==== Proof.K.DxBlock.lean ====
/-
  WHAT ONE GRID POINT OF THE dx CALL LEAVES in its five output blocks and in the dequantised weight it carries, as
  functions of the point's input blocks: the tile's total (`totalT`), its 14 groups of codes, its scales, its activation
  and the running dgamma. The first point writes the weight and starts dgamma at zero; the others read both back.
-/
module

public import proofs.«01_k».proof.Proof.K.DxQuant

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DxIdeal.Value

open Cert.DxIdeal Cert.DxIdeal.Gen

variable {F : FTy → Type} [FloatOps F]

theorem hz : (![0, 0] : Fin 2 → Nat) = fun _ => 0 := funext fun a => by fin_cases a <;> rfl

/-- The tile's total gradient from its blocks and the dequantised weight. -/
def totalT (x0 : Vec F S384x1792 .fp8e4m3) (x1 x2 : Vec F S384x1 .f32) (x3 : Vec F S1x1792 .f32) (x6 : Vec F S384x2304 .bf16)
    (x7 : Vec F S384x1792 .bf16) (w : Vec F S1792x2304 .bf16) : FVec F S384x1792 .f32 :=
  k0_pay11 (k0_pay4 x2) (k0_pay5 x2 x0 x1) (k0_pay9 x3 x6 w) (k0_pay10 x3 x2 x0 x1 x6 w) x7

section Outs
variable (c : Dev nD) (i : grid0.Coords)
  (arg1 : Memref sig .tc .vmem S384x1792 .fp8e4m3) (harg1 : arg1.IsWhole) (arg2 : Memref sig .tc .vmem S384x1 .f32) (harg2 : arg2.IsWhole)
  (arg3 : Memref sig .tc .vmem S384x1 .f32) (harg3 : arg3.IsWhole) (arg4 : Memref sig .tc .vmem S1x1792 .f32) (harg4 : arg4.IsWhole)
  (arg5 : Memref sig .tc .vmem S1792x2304 .fp8e4m3) (harg5 : arg5.IsWhole) (arg6 : Memref sig .tc .vmem S1x2304 .f32) (harg6 : arg6.IsWhole)
  (arg7 : Memref sig .tc .vmem S384x2304 .bf16) (harg7 : arg7.IsWhole) (arg8 : Memref sig .tc .vmem S384x1792 .bf16) (harg8 : arg8.IsWhole)
  (arg9 : Memref sig .tc .vmem S384x1792 .bf16) (harg9 : arg9.IsWhole) (arg10 : Memref sig .tc .vmem S1x1792 .f32) (harg10 : arg10.IsWhole)
  (arg11 : Memref sig .tc .vmem S384x1792 .fp8e5m2) (harg11 : arg11.IsWhole) (arg12 : Memref sig .tc .vmem S384x14 .f32) (harg12 : arg12.IsWhole)
  (arg13 : Memref sig .tc .vmem S384x1792 .bf16) (harg13 : arg13.IsWhole) (arg14 : Memref sig .tc .vmem S1792x2304 .bf16) (harg14 : arg14.IsWhole)
  (x0 : Vec F S384x1792 .fp8e4m3) (x1 : Vec F S384x1 .f32) (x2 : Vec F S384x1 .f32) (x3 : Vec F S1x1792 .f32)
  (x4 : Vec F S1792x2304 .fp8e4m3) (x5 : Vec F S1x2304 .f32) (x6 : Vec F S384x2304 .bf16) (x7 : Vec F S384x1792 .bf16)
  (xo9 : Vec F S1x1792 .f32) (xs0 : Vec F S1792x2304 .bf16)

/-! ### The first point -/

theorem sout_A (hc : cond0_0 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7
      = k0_pay1 x4 x5 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_unit_zero hz]
  simp only [View.readAt_eq_ld, harg5.read_unread, harg6.read_unread, View.ld_unit_zero (S := S1792x2304) hz, View.ld_unit_zero (S := S1x2304) hz]

theorem out8_A (hc : cond0_0 i) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7
      = truncf .bf16 (totalT x0 x1 x2 x3 x6 x7 (k0_pay1 x4 x5)) bitsLt_bf16_f32 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread,
    View.ld_unit_zero (S := S384x1792) hz, View.ld_unit_zero (S := S384x1) hz, View.ld_unit_zero (S := S1x1792) hz, View.ld_unit_zero (S := S1792x2304) hz,
    View.ld_unit_zero (S := S1x2304) hz, View.ld_unit_zero (S := S384x2304) hz, View.readCov_unit_zero (S := S1792x2304) _ hz]
  rfl

theorem out9_A (hc : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7
      = k0_pay8 x2 x0 x1 x6 (k0_pay1 x4 x5) k0_pay2 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_cons_unit_zero (S := S1x1792) hz]
  simp only [View.readAt_eq_ld, harg1.read_unread, harg2.read_unread, harg3.read_unread, harg4.read_unread, harg5.read_unread, harg6.read_unread, harg7.read_unread, harg8.read_unread,
    View.ld_unit_zero (S := S384x1792) hz, View.ld_unit_zero (S := S384x1) hz, View.ld_unit_zero (S := S1x1792) hz, View.ld_unit_zero (S := S1792x2304) hz,
    View.ld_unit_zero (S := S1x2304) hz, View.ld_unit_zero (S := S384x2304) hz, View.readCov_unit_zero (S := S1792x2304) _ hz, View.readCov_unit_zero (S := S1x1792) _ hz]

theorem out10_A (hc : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7
      = View.canon (piecesT (totalT x0 x1 x2 x3 x6 x7 (k0_pay1 x4 x5))) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread,
    View.ld_unit_zero (S := S384x1792) hz, View.ld_unit_zero (S := S384x1) hz, View.ld_unit_zero (S := S1x1792) hz, View.ld_unit_zero (S := S1792x2304) hz,
    View.ld_unit_zero (S := S1x2304) hz, View.ld_unit_zero (S := S384x2304) hz, View.readCov_unit_zero (S := S1792x2304) _ hz,
    codes0, codes1, codes2, codes3, codes4, codes5, codes6, codes7, codes8, codes9, codes10, codes11, codes12, codes13]
  rfl

theorem out11_A (hc : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7
      = lanesT (totalT x0 x1 x2 x3 x6 x7 (k0_pay1 x4 x5)) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread,
    View.ld_unit_zero (S := S384x1792) hz, View.ld_unit_zero (S := S384x1) hz, View.ld_unit_zero (S := S1x1792) hz, View.ld_unit_zero (S := S1792x2304) hz,
    View.ld_unit_zero (S := S1x2304) hz, View.ld_unit_zero (S := S384x2304) hz, View.readCov_unit_zero (S := S1792x2304) _ hz]
  rfl

theorem out12_A (hc : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7
      = k0_pay6 x3 x2 x0 x1 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread,
    View.ld_unit_zero (S := S384x1792) hz, View.ld_unit_zero (S := S384x1) hz, View.ld_unit_zero (S := S1x1792) hz]

/-! ### The other points -/
theorem out8_B (hc : ¬cond0_0 i) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo9 xs0
      = truncf .bf16 (totalT x0 x1 x2 x3 x6 x7 xs0) bitsLt_bf16_f32 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo9 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg14.read_unread,
    View.ld_unit_zero (S := S384x1792) hz, View.ld_unit_zero (S := S384x1) hz, View.ld_unit_zero (S := S1x1792) hz, View.ld_unit_zero (S := S1792x2304) hz,
    View.ld_unit_zero (S := S1x2304) hz, View.ld_unit_zero (S := S384x2304) hz]
  rfl

theorem out9_B (hc : ¬cond0_0 i) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo9 xs0
      = k0_pay8 x2 x0 x1 x6 xs0 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo9 xs0)]
  unfold kernelRun0_B
  dsimp only
  sl_unfold_words
  rw [View.canon_cons_unit_zero (S := S1x1792) hz]
  simp only [View.readAt_eq_ld, harg1.read_unread, harg2.read_unread, harg3.read_unread, harg4.read_unread, harg5.read_unread, harg6.read_unread, harg7.read_unread, harg8.read_unread, harg10.read_unread, harg14.read_unread,
    View.ld_unit_zero (S := S384x1792) hz, View.ld_unit_zero (S := S384x1) hz, View.ld_unit_zero (S := S1x1792) hz, View.ld_unit_zero (S := S1792x2304) hz,
    View.ld_unit_zero (S := S1x2304) hz, View.ld_unit_zero (S := S384x2304) hz]

theorem out10_B (hc : ¬cond0_0 i) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo9 xs0
      = View.canon (piecesT (totalT x0 x1 x2 x3 x6 x7 xs0)) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo9 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg14.read_unread,
    View.ld_unit_zero (S := S384x1792) hz, View.ld_unit_zero (S := S384x1) hz, View.ld_unit_zero (S := S1x1792) hz, View.ld_unit_zero (S := S1792x2304) hz,
    View.ld_unit_zero (S := S1x2304) hz, View.ld_unit_zero (S := S384x2304) hz,
    codes0, codes1, codes2, codes3, codes4, codes5, codes6, codes7, codes8, codes9, codes10, codes11, codes12, codes13]
  rfl

theorem out11_B (hc : ¬cond0_0 i) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo9 xs0
      = lanesT (totalT x0 x1 x2 x3 x6 x7 xs0) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo9 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg14.read_unread,
    View.ld_unit_zero (S := S384x1792) hz, View.ld_unit_zero (S := S384x1) hz, View.ld_unit_zero (S := S1x1792) hz, View.ld_unit_zero (S := S1792x2304) hz,
    View.ld_unit_zero (S := S1x2304) hz, View.ld_unit_zero (S := S384x2304) hz]
  rfl

theorem out12_B (hc : ¬cond0_0 i) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo9 xs0
      = k0_pay6 x3 x2 x0 x1 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 xo9 xs0)]
  unfold kernelRun0_B
  dsimp only
  sl_unfold_words
  rw [View.canon_unit_zero hz]
  simp only [View.readAt_eq_ld, harg1.read_unread, harg2.read_unread, harg3.read_unread, harg4.read_unread,
    View.ld_unit_zero (S := S384x1792) hz, View.ld_unit_zero (S := S384x1) hz, View.ld_unit_zero (S := S1x1792) hz]

end Outs

end Cert.DxIdeal.Value

end
-- ==== Proof.K.DxRows.lean ====
/-
  THE MATHEMATICS OF ONE TOKEN. Every result of the dx call but dgamma belongs to one token: a row of each array depends on
  the same row of the arguments, the gamma vector and the weight. These are those row functions over the extended reals;
  the kernel (on its tiles of 384 tokens) and the reference (on all 1920) are both shown to compute them. Also here: how the
  reshapes and broadcasts of a column or a row read at an index.
-/
module

public import proofs.«01_k».proof.Proof.K.DxBlock

@[expose] public section

set_option maxRecDepth 16384

noncomputable section

open Idealize.ShloMosaic Idealize.ShloMosaic.TcCoe Idealize.SL.Sem Idealize.ShloMosaic.ValueIdx
open scoped BigOperators

namespace Cert.Rows

/-- The arrays of rank two, by their extents. -/
abbrev Mat (n m : Nat) : Type := (⟨2, ![n, m]⟩ : Shape).Idx → EReal

/-- One token's arguments: its activation codes, their scale, its reciprocal root mean square, its upstream gradient through
    the projection and through the residual. -/
@[ext] structure Tok where
  x : Fin 1792 → EReal
  xs : EReal
  rs : EReal
  dq : Fin 2304 → EReal
  dr : Fin 1792 → EReal

/-- Token `r` of the arrays. -/
def tok {n : Nat} (x0 : Mat n 1792) (x1 x2 : Mat n 1) (x6 : Mat n 2304) (x7 : Mat n 1792) (r : Fin n) : Tok :=
  ⟨fun d => x0 (ix2 r d), x1 (ix2 r 0), x2 (ix2 r 0), fun k => x6 (ix2 r k), fun d => x7 (ix2 r d)⟩

/-- The normalised activation. -/
def Tok.nrm (k : Tok) (d : Fin 1792) : EReal := k.x d * k.xs * k.rs
/-- The activation after gamma, `x_hat`. -/
def Tok.xhat (k : Tok) (ga : Fin 1792 → EReal) (d : Fin 1792) : EReal := k.nrm d * ga d
/-- The gradient of `x_hat`: the upstream gradient times the transposed weight. -/
def Tok.dxh (k : Tok) (w : Fin 1792 → Fin 2304 → EReal) (d : Fin 1792) : EReal := ∑ j, k.dq j * w d j
/-- The gradient of the normalised activation. -/
def Tok.grd (k : Tok) (ga : Fin 1792 → EReal) (w : Fin 1792 → Fin 2304 → EReal) (d : Fin 1792) : EReal := k.dxh w d * ga d
/-- The mean of the gradient times the normalised activation over the token's 1792 columns. -/
def Tok.mean (k : Tok) (ga : Fin 1792 → EReal) (w : Fin 1792 → Fin 2304 → EReal) : EReal :=
  Ideal.div (∑ d, k.grd ga w d * k.nrm d) (Ideal.ofBits .f32 0x44E00000#32)
/-- The token's gradient dx: through the normalisation, plus the residual's. -/
def Tok.tot (k : Tok) (ga : Fin 1792 → EReal) (w : Fin 1792 → Fin 2304 → EReal) (d : Fin 1792) : EReal :=
  k.rs * (k.grd ga w d - k.nrm d * k.mean ga w) + k.dr d
/-- The token's term of dgamma. -/
def Tok.dga (k : Tok) (w : Fin 1792 → Fin 2304 → EReal) (d : Fin 1792) : EReal := k.dxh w d * k.nrm d

/-- The dequantised weight: the codes times their column's scale. -/
def deq (wc : Mat 1792 2304) (ws : Mat 1 2304) (d : Fin 1792) (j : Fin 2304) : EReal := wc (ix2 d j) * ws (ix2 0 j)

/-- Group `b` of a row: its columns `128 b … 128 b + 127`. -/
def group (f : Fin 1792 → EReal) (b : Fin 14) (l : Fin 128) : EReal := f ⟨128 * b.val + l.val, by omega⟩
/-- A group's largest magnitude over 57344 (times the constant nearest its inverse). -/
def amax (g : Fin 128 → EReal) : EReal :=
  ((Finset.univ : Finset (Fin 128)).fold max (Ideal.ofBits .f32 0xFF800000#32) fun l => max (g l) (-(g l))) * Ideal.ofBits .f32 0x37924925#32
/-- A group's scale: the power of two the search finds for it. -/
def scl (f : Fin 1792 → EReal) (b : Fin 14) : EReal := Cert.Scale.scale (amax (group f b))
/-- A code: the value over its group's scale, clipped to ±57344. -/
def code (f : Fin 1792 → EReal) (b : Fin 14) (l : Fin 128) : EReal :=
  min (Ideal.ofBits .f32 0x47600000#32) (max (Ideal.ofBits .f32 0xC7600000#32) (group f b l * Cert.Scale.inv (amax (group f b))))

/-! ## Columns and rows read at an index -/

section Reads
variable {α : Type} {n m : Nat}

/-- A column broadcast over `m` columns reads its row's entry. -/
theorem col_apply (v : (⟨2, ![n, 1]⟩ : Shape).Idx → α) (h : (⟨2, ![n, 1]⟩ : Shape).Broadcasts ⟨2, ![n, m]⟩) (r : Fin n) (d : Fin m) :
    broadcastTo ⟨2, ![n, m]⟩ v h (ix2 r d) = v (ix2 r 0) :=
  broadcastTo_apply v h _ _ fun a => by
    match a with
    | ⟨0, _⟩ =>
      show r.val = if n = 1 then 0 else r.val
      split
      · have := r.isLt; omega
      · rfl
    | ⟨1, _⟩ => rfl

/-- A row broadcast over `n` rows reads its column's entry. -/
theorem row_apply (v : (⟨2, ![1, m]⟩ : Shape).Idx → α) (h : (⟨2, ![1, m]⟩ : Shape).Broadcasts ⟨2, ![n, m]⟩) (r : Fin n) (d : Fin m) :
    broadcastTo ⟨2, ![n, m]⟩ v h (ix2 r d) = v (ix2 0 d) :=
  broadcastTo_apply v h _ _ fun a => by
    match a with
    | ⟨0, _⟩ => rfl
    | ⟨1, _⟩ =>
      show d.val = if m = 1 then 0 else d.val
      split
      · have := d.isLt; omega
      · rfl

/-- A vector reshaped to a column. -/
theorem toCol_apply (v : (⟨1, ![n]⟩ : Shape).Idx → α) (h : (⟨1, ![n]⟩ : Shape).ShapeCasts ⟨2, ![n, 1]⟩) (r : Fin n) (z : Fin 1) :
    shapeCast ⟨2, ![n, 1]⟩ v h (ix2 r z) = v (ix1 r) :=
  shapeCast_apply v h _ _ (by
    rw [Shape.rowMajor_val_one, Shape.rowMajor_val_two]
    show r.val = r.val * 1 + z.val
    omega)

/-- A vector reshaped to a row. -/
theorem toRow_apply (v : (⟨1, ![m]⟩ : Shape).Idx → α) (h : (⟨1, ![m]⟩ : Shape).ShapeCasts ⟨2, ![1, m]⟩) (z : Fin 1) (d : Fin m) :
    shapeCast ⟨2, ![1, m]⟩ v h (ix2 z d) = v (ix1 d) :=
  shapeCast_apply v h _ _ (by
    rw [Shape.rowMajor_val_one, Shape.rowMajor_val_two]
    show d.val = z.val * m + d.val
    have : z.val = 0 := by omega
    rw [this]; omega)

end Reads

/-- A row's sum. -/
theorem sumRow_apply {n m : Nat} (v : FVec Ideal ⟨2, ![n, m]⟩ .f32) (acc : BitVec 32) (h : (⟨2, ![n, m]⟩ : Shape).Reduces [1] ⟨1, ![n]⟩)
    (hφ : FKind.Formats .f32) (hacc : acc = FKind.add.neutral .f32 hφ) (r : Fin n) :
    multiReduction .add [1] ⟨1, ![n]⟩ v acc h hφ hacc (ix1 r) = ∑ d : Fin m, v (ix2 r d) := by
  rw [Ideal.multiReduction_add_single]
  refine Finset.sum_congr rfl fun d _ => congrArg v (funext fun a => ?_)
  match a with | ⟨0, _⟩ => rfl | ⟨1, _⟩ => rfl

/-- A column's sum. -/
theorem sumCol_apply {n m : Nat} (v : FVec Ideal ⟨2, ![n, m]⟩ .f32) (acc : BitVec 32) (h : (⟨2, ![n, m]⟩ : Shape).Reduces [0] ⟨1, ![m]⟩)
    (hφ : FKind.Formats .f32) (hacc : acc = FKind.add.neutral .f32 hφ) (d : Fin m) :
    multiReduction .add [0] ⟨1, ![m]⟩ v acc h hφ hacc (ix1 d) = ∑ r : Fin n, v (ix2 r d) := by
  rw [Ideal.multiReduction_add_single]
  refine Finset.sum_congr rfl fun r _ => congrArg v (funext fun a => ?_)
  match a with | ⟨0, _⟩ => rfl | ⟨1, _⟩ => rfl

/-- A row's maximum. -/
theorem maxRow_apply {n m : Nat} (v : FVec Ideal ⟨2, ![n, m]⟩ .f32) (acc : BitVec 32) (h : (⟨2, ![n, m]⟩ : Shape).Reduces [1] ⟨1, ![n]⟩)
    (hφ : FKind.Formats .f32) (hacc : acc = FKind.maximumf.neutral .f32 hφ) (r : Fin n) :
    multiReduction .maximumf [1] ⟨1, ![n]⟩ v acc h hφ hacc (ix1 r)
      = (Finset.univ : Finset (Fin m)).fold max (Ideal.ofBits .f32 acc) fun d => v (ix2 r d) := by
  rw [Ideal.multiReduction_maximumf_single]
  refine congrArg (Finset.fold max _ · _) (funext fun d => congrArg v (funext fun a => ?_))
  match a with | ⟨0, _⟩ => rfl | ⟨1, _⟩ => rfl

/-! ## The results as whole arrays -/

section Arrays
variable (x0 : Mat 1920 1792) (x1 x2 : Mat 1920 1) (x3 : Mat 1 1792) (x4 : Mat 1792 2304) (x5 : Mat 1 2304)
  (x6 : Mat 1920 2304) (x7 : Mat 1920 1792)

/-- The gradient of token `r`. -/
def tot (r : Fin 1920) (d : Fin 1792) : EReal := (tok x0 x1 x2 x6 x7 r).tot (fun e => x3 (ix2 0 e)) (deq x4 x5) d

/-- dx. -/
def dxA : Mat 1920 1792 := fun i => tot x0 x1 x2 x3 x4 x5 x6 x7 (i 0) (i 1)
/-- dgamma: the tokens' terms summed. -/
def dgA : Mat 1 1792 := fun i => ∑ r : Fin 1920, (tok x0 x1 x2 x6 x7 r).dga (deq x4 x5) (i 1)
/-- The codes of dx, in groups of 128 columns. -/
def dxcA : Mat 1920 1792 := fun i =>
  code (tot x0 x1 x2 x3 x4 x5 x6 x7 (i 0)) ⟨(i 1).val / 128, by have h : (i 1).val < 1792 := (i 1).isLt; omega⟩
    ⟨(i 1).val % 128, Nat.mod_lt _ (by omega)⟩
/-- The scales of dx, one per token and group. -/
def dxsA : Mat 1920 14 := fun i => scl (tot x0 x1 x2 x3 x4 x5 x6 x7 (i 0)) (i 1)
/-- x_hat. -/
def xhA : Mat 1920 1792 := fun i => (tok x0 x1 x2 x6 x7 (i 0)).xhat (fun e => x3 (ix2 0 e)) (i 1)

end Arrays

end Cert.Rows

end
-- ==== Proof.K.DxTile.lean ====
/-
  WHAT THE KERNEL COMPUTES FOR ONE TILE OF 384 TOKENS, read at an index over the extended reals: row `r` of each of the
  tile's arrays is the row function (`Cert.Rows`) of token `r`'s arguments.
-/
module

public import proofs.«01_k».proof.Proof.K.DxRows

@[expose] public section

set_option maxRecDepth 16384

noncomputable section

open Idealize.ShloMosaic Idealize.ShloMosaic.TcCoe Idealize.SL.Sem Idealize.ShloMosaic.ValueIdx
open scoped BigOperators

namespace Cert.DxIdeal.Value

open Cert.DxIdeal Cert.DxIdeal.Gen Cert.Rows

/-! ## The gradient -/

section Grad
variable (x0 : Vec Ideal S384x1792 .fp8e4m3) (x1 x2 : Vec Ideal S384x1 .f32) (x3 : Vec Ideal S1x1792 .f32)
  (x4 : Vec Ideal S1792x2304 .fp8e4m3) (x5 : Vec Ideal S1x2304 .f32)
  (x6 : Vec Ideal S384x2304 .bf16) (x7 : Vec Ideal S384x1792 .bf16) (w : Vec Ideal S1792x2304 .bf16)

/-- The dequantised weight the kernel carries. -/
theorem pay1_apply (d : Fin 1792) (j : Fin 2304) :
    k0_pay1 (F := Ideal) x4 x5 (ix2 (n0 := 1792) (n1 := 2304) d j) = deq x4 x5 d j := by
  unfold k0_pay1
  simp only [shapeCast_self]
  show x4 _ * broadcastTo S1792x2304 _ _ _ = _
  rw [row_apply]
  rfl

/-- The tile's normalised activation. -/
theorem pay5_apply (r : Fin 384) (d : Fin 1792) :
    k0_pay5 (F := Ideal) x2 x0 x1 (ix2 (n0 := 384) (n1 := 1792) r d) = (tok x0 x1 x2 x6 x7 r).nrm d := by
  unfold k0_pay5 k0_pay4
  simp only [shapeCast_self]
  show x0 _ * broadcastTo S384x1792 x1 _ _ * broadcastTo S384x1792 x2 _ _ = _
  rw [col_apply, col_apply]
  rfl

/-- The tile's activation after gamma. -/
theorem pay6_apply (r : Fin 384) (d : Fin 1792) :
    k0_pay6 (F := Ideal) x3 x2 x0 x1 (ix2 (n0 := 384) (n1 := 1792) r d)
      = (tok x0 x1 x2 x6 x7 r).xhat (fun e => x3 (ix2 (n0 := 1) (n1 := 1792) 0 e)) d := by
  unfold k0_pay6 k0_pay3
  simp only [shapeCast_self]
  show k0_pay5 (F := Ideal) x2 x0 x1 _ * broadcastTo S384x1792 x3 _ _ = _
  rw [row_apply, pay5_apply x0 x1 x2 x6 x7]
  rfl

/-- The tile's product with the transposed weight. -/
theorem pay7_apply (r : Fin 384) (d : Fin 1792) :
    k0_pay7 (F := Ideal) x6 w (ix2 (n0 := 384) (n1 := 1792) r d)
      = (tok x0 x1 x2 x6 x7 r).dxh (fun e j => w (ix2 (n0 := 1792) (n1 := 2304) e j)) d := by
  unfold k0_pay7
  simp only [shapeCast_self]
  refine (Ideal.matmul_constant_zero_apply (φ₁ := .bf16) (φ₂ := .bf16) dot_S384x2304_S1792x2304_S384x1792_1_1_0_0_n_n none x6 w _).trans ?_
  rw [← Equiv.sum_comp (contrEquiv1 dot_S384x2304_S1792x2304_S384x1792_1_1_0_0_n_n 2304 rfl rfl).symm]
  refine Finset.sum_congr rfl fun t _ => ?_
  show x6 _ * w _ = x6 _ * w _
  congr 1
  · congr 1; funext a; match a with | ⟨0, _⟩ => rfl | ⟨1, _⟩ => rfl
  · congr 1; funext a; match a with | ⟨0, _⟩ => rfl | ⟨1, _⟩ => rfl

/-- One point's step of dgamma: what is there, plus the sum over the tile's tokens. -/
theorem pay8_apply (acc : Vec Ideal S1x1792 .f32) (d : Fin 1792) :
    k0_pay8 (F := Ideal) x2 x0 x1 x6 w acc (ix2 (n0 := 1) (n1 := 1792) 0 d)
      = acc (ix2 (n0 := 1) (n1 := 1792) 0 d)
        + ∑ r : Fin 384, (tok x0 x1 x2 x6 x7 r).dga (fun e j => w (ix2 (n0 := 1792) (n1 := 2304) e j)) d := by
  unfold k0_pay8
  simp only [shapeCast_self]
  show acc _ + shapeCast S1x1792 _ _ _ = _
  rw [toRow_apply]
  refine congrArg (acc _ + ·) ((sumCol_apply (n := 384) (m := 1792) _ 0x00000000#32 reduces_S384x1792_S1792 (.inl rfl) rfl d).trans
    (Finset.sum_congr rfl fun r _ => ?_))
  show k0_pay7 (F := Ideal) x6 w _ * k0_pay5 (F := Ideal) x2 x0 x1 _ = _
  rw [pay7_apply x0 x1 x2 x6 x7, pay5_apply x0 x1 x2 x6 x7]
  rfl

/-- The gradient of the normalised activation. -/
theorem pay9_apply (r : Fin 384) (d : Fin 1792) :
    k0_pay9 (F := Ideal) x3 x6 w (ix2 (n0 := 384) (n1 := 1792) r d)
      = (tok x0 x1 x2 x6 x7 r).grd (fun e => x3 (ix2 (n0 := 1) (n1 := 1792) 0 e)) (fun e j => w (ix2 (n0 := 1792) (n1 := 2304) e j)) d := by
  unfold k0_pay9 k0_pay3
  simp only [shapeCast_self]
  show k0_pay7 (F := Ideal) x6 w _ * broadcastTo S384x1792 x3 _ _ = _
  rw [row_apply, pay7_apply x0 x1 x2 x6 x7]
  rfl

/-- The tile's total gradient. -/
theorem totalT_apply (r : Fin 384) (d : Fin 1792) :
    totalT (F := Ideal) x0 x1 x2 x3 x6 x7 w (ix2 (n0 := 384) (n1 := 1792) r d)
      = (tok x0 x1 x2 x6 x7 r).tot (fun e => x3 (ix2 (n0 := 1) (n1 := 1792) 0 e)) (fun e j => w (ix2 (n0 := 1792) (n1 := 2304) e j)) d := by
  unfold totalT k0_pay11 k0_pay4
  simp only [shapeCast_self]
  show broadcastTo S384x1792 x2 _ _ * (k0_pay9 (F := Ideal) x3 x6 w _ - k0_pay5 (F := Ideal) x2 x0 x1 _ * broadcastTo S384x1792 _ _ _) + x7 _ = _
  rw [col_apply, col_apply, pay9_apply x0 x1 x2 x3 x6 x7, pay5_apply x0 x1 x2 x6 x7]
  show _ * (_ - _ * Ideal.div (shapeCast S384x1 _ _ _) _) + _ = _
  rw [toCol_apply]
  have e : ∀ d, k0_pay10 (F := Ideal) x3 x2 x0 x1 x6 w (ix2 (n0 := 384) (n1 := 1792) r d)
      = (tok x0 x1 x2 x6 x7 r).grd (fun e => x3 (ix2 (n0 := 1) (n1 := 1792) 0 e)) (fun e j => w (ix2 (n0 := 1792) (n1 := 2304) e j)) d
        * (tok x0 x1 x2 x6 x7 r).nrm d := fun d => by
    unfold k0_pay10
    show k0_pay9 (F := Ideal) x3 x6 w _ * k0_pay5 (F := Ideal) x2 x0 x1 _ = _
    rw [pay9_apply x0 x1 x2 x3 x6 x7, pay5_apply x0 x1 x2 x6 x7]
  have e' := (sumRow_apply (n := 384) (m := 1792) (k0_pay10 (F := Ideal) x3 x2 x0 x1 x6 w) 0x00000000#32 reduces_S384x1792_S384 (.inl rfl) rfl r).trans
    (Finset.sum_congr rfl fun d _ => e d)
  unfold Tok.tot Tok.mean
  exact congrArg (fun z => (tok x0 x1 x2 x6 x7 r).rs * ((tok x0 x1 x2 x6 x7 r).grd _ _ d - (tok x0 x1 x2 x6 x7 r).nrm d * Ideal.div z (Ideal.ofBits .f32 0x44E00000#32))
    + (tok x0 x1 x2 x6 x7 r).dr d) e'

end Grad

end Cert.DxIdeal.Value

end
-- ==== Proof.K.DxCodes.lean ====
/-
  THE QUANTISER, read at an index over the extended reals: the codes and scales the kernel makes of a tile are, row by row
  and group by group, `Cert.Rows.code` and `Cert.Rows.scl` of the tile's row.
-/
module

public import proofs.«01_k».proof.Proof.K.DxTile

@[expose] public section

set_option maxRecDepth 16384

noncomputable section

open Idealize.ShloMosaic Idealize.ShloMosaic.TcCoe Idealize.SL.Sem Idealize.ShloMosaic.ValueIdx
open scoped BigOperators

namespace Cert.DxIdeal.Value

open Cert.DxIdeal Cert.DxIdeal.Gen Cert.Rows

/-! ## The quantiser -/

/-- Row `r` of a tile. -/
def rowT (T : FVec Ideal S384x1792 .f32) (r : Fin 384) (d : Fin 1792) : EReal := T (ix2 (n0 := 384) (n1 := 1792) r d)

/-- The column of group `b` at `l`. -/
theorem blkV_apply (T : FVec Ideal S384x1792 .f32) (b : Fin 14) (r : Fin 384) (l : Fin 128) :
    blkV T b (ix2 (n0 := 384) (n1 := 128) r l) = group (rowT T r) b l :=
  extractStridedSlice_apply _ _ _ _ (ix2 (n0 := 384) (n1 := 1792) r ⟨128 * b.val + l.val, by omega⟩) fun a => by
    match a with
    | ⟨0, _⟩ => show r.val = 0 + r.val; omega
    | ⟨1, _⟩ => rfl

/-- A group's largest magnitude, row by row. -/
theorem amaxV_apply (T : FVec Ideal S384x1792 .f32) (b : Fin 14) (r : Fin 384) :
    amaxV (blkV T b) (ix2 (n0 := 384) (n1 := 1) r 0) = amax (group (rowT T r) b) := by
  unfold amaxV
  show shapeCast S384x1 _ _ _ * _ = _
  rw [toCol_apply]
  unfold amax
  refine congrArg (· * Ideal.ofBits .f32 0x37924925#32)
    ((maxRow_apply (n := 384) (m := 128) (absf (blkV T b)) 0xFF800000#32 reduces_S384x128_S384 (.inl rfl) rfl r).trans
      (congrArg (fun f => Finset.fold max (Ideal.ofBits .f32 0xFF800000#32) f Finset.univ) (funext fun l => ?_)))
  show max (blkV T b _) (-(blkV T b _)) = _
  rw [blkV_apply]

theorem broadcast_apply' {s : Shape} {α : Type} (x : α) (j : s.Idx) : broadcast s x j = x := rfl
theorem stepV_apply (a : FVec Ideal S384x1 .f32) (v : IVec S384x1 32) (s : BitVec 32) (j : S384x1.Idx) :
    stepV a v s j = Cert.Scale.step (a j) (v j) s := rfl
/-- The search, entry by entry. -/
theorem searchV_apply (a : FVec Ideal S384x1 .f32) (j : S384x1.Idx) : searchV a j = Cert.Scale.search (a j) := by
  unfold searchV Cert.Scale.search
  rw [stepV_apply, stepV_apply, stepV_apply, stepV_apply, stepV_apply, stepV_apply, stepV_apply, stepV_apply, broadcast_apply']
/-- The word comparison for equality, entry by entry. -/
theorem cmpi_eq_apply {s : Shape} (u v : IVec s 32) (j : s.Idx) : cmpi .eq u v j = BitVec.ofBool (u j == v j) := rfl
theorem select_apply' {s : Shape} {α : Type} (c : IVec s 1) (u v : s.Idx → α) (j : s.Idx) :
    select c u v j = Scalar.select (c j) (u j) (v j) := rfl
theorem ori_apply' {s : Shape} (u v : IVec s 1) (j : s.Idx) : ori u v j = u j ||| v j := rfl
theorem cmpf_apply' {s : Shape} (p : CmpFPredicate) (u v : FVec Ideal s .f32) (j : s.Idx) : cmpf p u v j = Ideal.cmp p (u j) (v j) := rfl
theorem ofBits_eq (b : BitVec 32) : Scalar.ofBits (F := Ideal) .f32 b = Ideal.ofBits .f32 b := rfl
/-- The exponent with both ends replaced, entry by entry. -/
theorem fixV_apply (a : FVec Ideal S384x1 .f32) (v : IVec S384x1 32) (j : S384x1.Idx) :
    fixV (topV a v) j = Cert.Scale.fix (a j) (v j) := by
  unfold fixV topV Cert.Scale.fix
  simp -implicitDefEqProofs only [cmpi_eq_apply, select_apply', ori_apply', cmpf_apply', broadcast_apply', ofBits_eq]
/-- The inverse scale, entry by entry. -/
theorem invV_apply (a : FVec Ideal S384x1 .f32) (j : S384x1.Idx) : invV a j = Cert.Scale.inv (a j) := by
  unfold Cert.Scale.inv invV
  rw [← searchV_apply, ← fixV_apply]
  generalize fixV (topV a (searchV a)) = z
  rfl
/-- The scale, entry by entry. -/
theorem scaleV_apply (a : FVec Ideal S384x1 .f32) (j : S384x1.Idx) : scaleV a j = Cert.Scale.scale (a j) := by
  unfold Cert.Scale.scale scaleV
  rw [← searchV_apply, ← fixV_apply]
  generalize fixV (topV a (searchV a)) = z
  rfl

/-- A group's codes, row by row. -/
theorem codesT_apply (T : FVec Ideal S384x1792 .f32) (b : Fin 14) (r : Fin 384) (l : Fin 128) :
    codesT T b (ix2 (n0 := 384) (n1 := 128) r l) = code (rowT T r) b l := by
  unfold codesT codesV
  show min _ (max _ (blkV T b _ * broadcastTo S384x128 _ _ _)) = _
  rw [col_apply, invV_apply, amaxV_apply, blkV_apply]
  rfl

/-- A group's scale, row by row. -/
theorem scaleT_apply (T : FVec Ideal S384x1792 .f32) (b : Fin 14) (r : Fin 384) :
    scaleT T b (ix2 (n0 := 384) (n1 := 1) r 0) = scl (rowT T r) b := by
  unfold scaleT
  rw [scaleV_apply, amaxV_apply]
  rfl

/-- One lane of the scales written. -/
theorem lanesV_apply (acc : FVec Ideal S384x14 .f32) (k : Fin 14) (s : FVec Ideal S384x1 .f32) (r : Fin 384) (l : Fin 14) :
    lanesV acc (BitVec.ofNat 32 k.val) s (ix2 (n0 := 384) (n1 := 14) r l)
      = if l = k then s (ix2 (n0 := 384) (n1 := 1) r 0) else acc (ix2 (n0 := 384) (n1 := 14) r l) := by
  unfold lanesV
  simp only [shapeCast_self]
  rw [select_apply', cmpi_eq_apply, broadcast_apply', col_apply]
  unfold laneV
  rw [iota_single_apply]
  show Scalar.select (BitVec.ofBool (BitVec.ofNat 32 l.val == BitVec.ofNat 32 k.val)) _ _ = _
  have e : (BitVec.ofNat 32 l.val == BitVec.ofNat 32 k.val) = decide (l = k) := by
    revert l k; decide
  rw [e]
  unfold Scalar.select
  by_cases h : l = k
  · simp [h]
  · simp [h]

/-- The tile's scales: lane `b` is group `b`'s. -/
theorem lanesT_apply (T : FVec Ideal S384x1792 .f32) (r : Fin 384) (b : Fin 14) :
    lanesT T (ix2 (n0 := 384) (n1 := 14) r b) = scl (rowT T r) b := by
  rw [← scaleT_apply]
  unfold lanesT
  have h : ∀ (acc : FVec Ideal S384x14 .f32) (k : Fin 14) (n : BitVec 32) (hn : n = BitVec.ofNat 32 k.val) (s : FVec Ideal S384x1 .f32) (r : Fin 384) (l : Fin 14),
      lanesV acc n s (ix2 (n0 := 384) (n1 := 14) r l)
        = if l = k then s (ix2 (n0 := 384) (n1 := 1) r 0) else acc (ix2 (n0 := 384) (n1 := 14) r l) :=
    fun acc k n hn s r l => by rw [hn]; exact lanesV_apply acc k s r l
  rw [h _ 13 13#32 rfl, h _ 12 12#32 rfl, h _ 11 11#32 rfl, h _ 10 10#32 rfl, h _ 9 9#32 rfl, h _ 8 8#32 rfl, h _ 7 7#32 rfl, h _ 6 6#32 rfl,
    h _ 5 5#32 rfl, h _ 4 4#32 rfl, h _ 3 3#32 rfl, h _ 2 2#32 rfl, h _ 1 1#32 rfl, h _ 0 0#32 rfl]
  fin_cases b <;> simp

/-- The codes of a whole tile. -/
def codesRow (T : FVec Ideal S384x1792 .f32) : FVec Ideal S384x1792 .fp8e5m2 := fun y =>
  code (rowT T (y 0)) ⟨(y 1).val / 128, by have h : (y 1).val < 1792 := (y 1).isLt; omega⟩ ⟨(y 1).val % 128, Nat.mod_lt _ (by omega)⟩

/-- The fourteen stores together leave the whole tile's codes. -/
theorem pieces_apply (T : FVec Ideal S384x1792 .f32) : View.canon (piecesT T) = codesRow T := by
  have hp : ∀ b : Fin 14, pieceT T b ∈ piecesT T := by
    intro b; unfold piecesT; fin_cases b <;> simp
  have hq : ∀ p ∈ piecesT T, ∃ b : Fin 14, p = pieceT T b := by
    intro p h
    unfold piecesT at h
    simp only [List.mem_cons, List.mem_nil_iff, or_false] at h
    rcases h with h | h | h | h | h | h | h | h | h | h | h | h | h | h <;> exact ⟨_, h⟩
  funext y
  refine View.canon_apply_of_pieces (codesRow T) (piecesT T) ?_ y ?_
  · intro p h x
    obtain ⟨b, rfl⟩ := hq p h
    show codesT T b x = codesRow T _
    obtain ⟨r, l, rfl⟩ : ∃ (r : Fin 384) (l : Fin 128), x = ix2 (n0 := 384) (n1 := 128) r l := ⟨x 0, x 1, eq_ix2 x⟩
    rw [codesT_apply]
    unfold codesRow
    have e0 : ((pieceT T b).1.emb (ix2 (n0 := 384) (n1 := 128) r l)) 0 = r := Fin.ext (by
      show 0 + 1 * r.val = r.val
      omega)
    have e1 : (((pieceT T b).1.emb (ix2 (n0 := 384) (n1 := 128) r l)) 1).val = 128 * b.val + l.val := by
      show 128 * b.val + 1 * l.val = _
      omega
    rw [e0]
    congr 1
    · apply Fin.ext; show b.val = _ / 128; rw [e1]; omega
    · apply Fin.ext; show l.val = _ % 128; rw [e1]; omega
  · refine ⟨pieceT T ⟨(y 1).val / 128, by have h : (y 1).val < 1792 := (y 1).isLt; omega⟩, hp _, ?_⟩
    show y ∈ (Rect.unit (s := S384x1792) ![0, 128 * ((y 1).val / 128)] ![384, 128] (inb ⟨(y 1).val / 128, by have h : (y 1).val < 1792 := (y 1).isLt; omega⟩)).set
    rw [Rect.mem_set_unit]
    intro a
    match a with
    | ⟨0, _⟩ => have : (y 0).val < 384 := (y 0).isLt; exact ⟨Nat.zero_le _, by show (y 0).val < 0 + 384; omega⟩
    | ⟨1, _⟩ => exact ⟨by show 128 * ((y 1).val / 128) ≤ (y 1).val; omega, by show (y 1).val < 128 * ((y 1).val / 128) + 128; omega⟩

end Cert.DxIdeal.Value

end
-- ==== Proof.K.DxArgs.lean ====
/-
  THE dx CALL'S ARGUMENTS AND BLOCKS: the arrays its windows read, and which rows of them each point's blocks are: point
  `t` reads tokens `384 t … 384 t + 383`, and gamma, the weight codes and the weight scales whole.
-/
module

public import proofs.«01_k».proof.Proof.K.DxCodes

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DxIdeal.Value

open Cert.DxIdeal Cert.DxIdeal.Gen Cert.Rows

variable (m : (ℓ : Loc nD τ sig) → Buf (Elt Ideal) ℓ) (ρ : Dev nD → PrngReg)

/-! ## The arguments as the call reads them -/

/-- The activation codes, one row per token. -/
abbrev a0 (c : Dev nD) : FVec Ideal S1920x1792 .fp8e4m3 := shapeCast S1920x1792 (m ((c : Thread nD τ).loc main_arg0)) shapeCasts_S3x640x1792_S1920x1792
/-- The activation scales, a column. -/
abbrev a1 (c : Dev nD) : FVec Ideal S1920x1 .f32 := shapeCast S1920x1 (m ((c : Thread nD τ).loc main_arg1)) shapeCasts_S3x640_S1920x1
/-- The reciprocal root mean squares, a column. -/
abbrev a2 (c : Dev nD) : FVec Ideal S1920x1 .f32 := shapeCast S1920x1 (m ((c : Thread nD τ).loc main_arg2)) shapeCasts_S3x640_S1920x1
/-- Gamma, a row. -/
abbrev a3 (c : Dev nD) : FVec Ideal S1x1792 .f32 := shapeCast S1x1792 (m ((c : Thread nD τ).loc main_arg3)) shapeCasts_S1792_S1x1792
/-- The weight codes. -/
abbrev a4 (c : Dev nD) : FVec Ideal S1792x2304 .fp8e4m3 := m ((c : Thread nD τ).loc main_arg4)
/-- The weight scales, a row. -/
abbrev a5 (c : Dev nD) : FVec Ideal S1x2304 .f32 := shapeCast S1x2304 (m ((c : Thread nD τ).loc main_arg5)) shapeCasts_S2304_S1x2304
/-- The upstream gradient, one row per token. -/
abbrev a6 (c : Dev nD) : FVec Ideal S1920x2304 .bf16 := shapeCast S1920x2304 (m ((c : Thread nD τ).loc main_arg6)) shapeCasts_S3x640x2304_S1920x2304
/-- The residual gradient, one row per token. -/
abbrev a7 (c : Dev nD) : FVec Ideal S1920x1792 .bf16 := shapeCast S1920x1792 (m ((c : Thread nD τ).loc main_arg7)) shapeCasts_S3x640x1792_S1920x1792

/-! Each window's array when the grid starts. -/

theorem V_a0 (c : Dev nD) : V m c main_v1 = a0 m c := by
  unfold V
  after_results <;> rfl
theorem V_a1 (c : Dev nD) : V m c main_v2 = a1 m c := by
  unfold V
  after_results <;> rfl
theorem V_a2 (c : Dev nD) : V m c main_v3 = a2 m c := by
  unfold V
  after_results <;> rfl
theorem V_a3 (c : Dev nD) : V m c main_v4 = a3 m c := by
  unfold V
  after_results <;> rfl
theorem V_a5 (c : Dev nD) : V m c main_v5 = a5 m c := by
  unfold V
  after_results <;> rfl
theorem V_a6 (c : Dev nD) : V m c main_v0 = a6 m c := by
  unfold V
  after_results <;> rfl
theorem V_a7 (c : Dev nD) : V m c main_v6 = a7 m c := by
  unfold V
  after_results <;> rfl

/-! Each window's block index at each point. -/

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = 0 ∧ win0_9.index t 1 = 0 := by decide +kernel
theorem index10 : ∀ t : Fin cfg0.N, win0_10.index t 0 = t.val ∧ win0_10.index t 1 = 0 := by decide +kernel
theorem index11 : ∀ t : Fin cfg0.N, win0_11.index t 0 = t.val ∧ win0_11.index t 1 = 0 := by decide +kernel
theorem index12 : ∀ t : Fin cfg0.N, win0_12.index t 0 = t.val ∧ win0_12.index t 1 = 0 := by decide +kernel

/-! Each window's block read at an index. -/

theorem iblk0_apply (c : Dev nD) (t : Fin cfg0.N) (r : Fin 384) (d : Fin 1792) (q : Fin 1920) (hq : q.val = 384 * t.val + r.val) :
    (iblk m c 0 t : FVec Ideal S384x1792 .fp8e4m3) (ix2 (n0 := 384) (n1 := 1792) r d) = a0 m c (ix2 (n0 := 1920) (n1 := 1792) q d) := by
  unfold iblk
  rw [View.read_apply]
  show V m c main_v1 _ = a0 m c _
  rw [V_a0]
  show a0 m c _ = a0 m c _
  congr 1
  funext e
  apply Fin.ext
  match e with
  | ⟨0, _⟩ => show win0_0.index t 0 * 384 + 1 * r.val = q.val; rw [(index0 t).1, hq]; omega
  | ⟨1, _⟩ => show win0_0.index t 1 * 1792 + 1 * d.val = d.val; rw [(index0 t).2]; omega

theorem iblk1_apply (c : Dev nD) (t : Fin cfg0.N) (r : Fin 384) (d : Fin 1) (q : Fin 1920) (hq : q.val = 384 * t.val + r.val) :
    (iblk m c 1 t : FVec Ideal S384x1 .f32) (ix2 (n0 := 384) (n1 := 1) r d) = a1 m c (ix2 (n0 := 1920) (n1 := 1) q d) := by
  unfold iblk
  rw [View.read_apply]
  show V m c main_v2 _ = a1 m c _
  rw [V_a1]
  show a1 m c _ = a1 m c _
  congr 1
  funext e
  apply Fin.ext
  match e with
  | ⟨0, _⟩ => show win0_1.index t 0 * 384 + 1 * r.val = q.val; rw [(index1 t).1, hq]; omega
  | ⟨1, _⟩ => show win0_1.index t 1 * 1 + 1 * d.val = d.val; rw [(index1 t).2]; omega

theorem iblk2_apply (c : Dev nD) (t : Fin cfg0.N) (r : Fin 384) (d : Fin 1) (q : Fin 1920) (hq : q.val = 384 * t.val + r.val) :
    (iblk m c 2 t : FVec Ideal S384x1 .f32) (ix2 (n0 := 384) (n1 := 1) r d) = a2 m c (ix2 (n0 := 1920) (n1 := 1) q d) := by
  unfold iblk
  rw [View.read_apply]
  show V m c main_v3 _ = a2 m c _
  rw [V_a2]
  show a2 m c _ = a2 m c _
  congr 1
  funext e
  apply Fin.ext
  match e with
  | ⟨0, _⟩ => show win0_2.index t 0 * 384 + 1 * r.val = q.val; rw [(index2 t).1, hq]; omega
  | ⟨1, _⟩ => show win0_2.index t 1 * 1 + 1 * d.val = d.val; rw [(index2 t).2]; omega

theorem iblk3_apply (c : Dev nD) (t : Fin cfg0.N) (r : Fin 1) (d : Fin 1792) :
    (iblk m c 3 t : FVec Ideal S1x1792 .f32) (ix2 (n0 := 1) (n1 := 1792) r d) = a3 m c (ix2 (n0 := 1) (n1 := 1792) r d) := by
  unfold iblk
  rw [View.read_apply]
  show V m c main_v4 _ = a3 m c _
  rw [V_a3]
  show a3 m c _ = a3 m c _
  congr 1
  funext e
  apply Fin.ext
  match e with
  | ⟨0, _⟩ => show win0_3.index t 0 * 1 + 1 * r.val = r.val; rw [(index3 t).1]; omega
  | ⟨1, _⟩ => show win0_3.index t 1 * 1792 + 1 * d.val = d.val; rw [(index3 t).2]; omega

theorem iblk4_apply (c : Dev nD) (t : Fin cfg0.N) (r : Fin 1792) (d : Fin 2304) :
    (iblk m c 4 t : FVec Ideal S1792x2304 .fp8e4m3) (ix2 (n0 := 1792) (n1 := 2304) r d) = a4 m c (ix2 (n0 := 1792) (n1 := 2304) r d) := by
  unfold iblk
  rw [View.read_apply]
  show V m c main_arg4 _ = a4 m c _
  rw [V_main_arg4]
  show a4 m c _ = a4 m c _
  congr 1
  funext e
  apply Fin.ext
  match e with
  | ⟨0, _⟩ => show win0_4.index t 0 * 1792 + 1 * r.val = r.val; rw [(index4 t).1]; omega
  | ⟨1, _⟩ => show win0_4.index t 1 * 2304 + 1 * d.val = d.val; rw [(index4 t).2]; omega

theorem iblk5_apply (c : Dev nD) (t : Fin cfg0.N) (r : Fin 1) (d : Fin 2304) :
    (iblk m c 5 t : FVec Ideal S1x2304 .f32) (ix2 (n0 := 1) (n1 := 2304) r d) = a5 m c (ix2 (n0 := 1) (n1 := 2304) r d) := by
  unfold iblk
  rw [View.read_apply]
  show V m c main_v5 _ = a5 m c _
  rw [V_a5]
  show a5 m c _ = a5 m c _
  congr 1
  funext e
  apply Fin.ext
  match e with
  | ⟨0, _⟩ => show win0_5.index t 0 * 1 + 1 * r.val = r.val; rw [(index5 t).1]; omega
  | ⟨1, _⟩ => show win0_5.index t 1 * 2304 + 1 * d.val = d.val; rw [(index5 t).2]; omega

theorem iblk6_apply (c : Dev nD) (t : Fin cfg0.N) (r : Fin 384) (d : Fin 2304) (q : Fin 1920) (hq : q.val = 384 * t.val + r.val) :
    (iblk m c 6 t : FVec Ideal S384x2304 .bf16) (ix2 (n0 := 384) (n1 := 2304) r d) = a6 m c (ix2 (n0 := 1920) (n1 := 2304) q d) := by
  unfold iblk
  rw [View.read_apply]
  show V m c main_v0 _ = a6 m c _
  rw [V_a6]
  show a6 m c _ = a6 m c _
  congr 1
  funext e
  apply Fin.ext
  match e with
  | ⟨0, _⟩ => show win0_6.index t 0 * 384 + 1 * r.val = q.val; rw [(index6 t).1, hq]; omega
  | ⟨1, _⟩ => show win0_6.index t 1 * 2304 + 1 * d.val = d.val; rw [(index6 t).2]; omega

theorem iblk7_apply (c : Dev nD) (t : Fin cfg0.N) (r : Fin 384) (d : Fin 1792) (q : Fin 1920) (hq : q.val = 384 * t.val + r.val) :
    (iblk m c 7 t : FVec Ideal S384x1792 .bf16) (ix2 (n0 := 384) (n1 := 1792) r d) = a7 m c (ix2 (n0 := 1920) (n1 := 1792) q d) := by
  unfold iblk
  rw [View.read_apply]
  show V m c main_v6 _ = a7 m c _
  rw [V_a7]
  show a7 m c _ = a7 m c _
  congr 1
  funext e
  apply Fin.ext
  match e with
  | ⟨0, _⟩ => show win0_7.index t 0 * 384 + 1 * r.val = q.val; rw [(index7 t).1, hq]; omega
  | ⟨1, _⟩ => show win0_7.index t 1 * 1792 + 1 * d.val = d.val; rw [(index7 t).2]; omega

/-- Token `r` of point `t`'s blocks is token `384 t + r` of the arrays. -/
theorem tok_iblk (c : Dev nD) (t : Fin cfg0.N) (r : Fin 384) (q : Fin 1920) (hq : q.val = 384 * t.val + r.val) :
    tok (n := 384) (iblk m c 0 t) (iblk m c 1 t) (iblk m c 2 t) (iblk m c 6 t) (iblk m c 7 t) r
      = tok (a0 m c) (a1 m c) (a2 m c) (a6 m c) (a7 m c) q := by
  have h0 := fun d => iblk0_apply m c t r d q hq
  have h1 := iblk1_apply m c t r 0 q hq
  have h2 := iblk2_apply m c t r 0 q hq
  have h6 := fun d => iblk6_apply m c t r d q hq
  have h7 := fun d => iblk7_apply m c t r d q hq
  generalize iblk m c 0 t = b0 at *
  generalize iblk m c 1 t = b1 at *
  generalize iblk m c 2 t = b2 at *
  generalize iblk m c 6 t = b6 at *
  generalize iblk m c 7 t = b7 at *
  exact Tok.ext (funext h0) h1 h2 (funext h6) (funext h7)

/-- Gamma at every point. -/
theorem gamma_iblk (c : Dev nD) (t : Fin cfg0.N) :
    (fun e => (iblk m c 3 t : FVec Ideal S1x1792 .f32) (ix2 (n0 := 1) (n1 := 1792) 0 e)) = fun e => a3 m c (ix2 (n0 := 1) (n1 := 1792) 0 e) :=
  funext fun e => iblk3_apply m c t 0 e

end Cert.DxIdeal.Value

end
-- ==== Proof.K.DxPoint.lean ====
/-
  WHAT A POINT LEAVES: the weight carried from the first point on is the dequantised one, so every point's blocks are
  functions of the arguments alone; the tile's total is the gradient of its 384 tokens.
-/
module

public import proofs.«01_k».proof.Proof.K.DxArgs

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DxIdeal.Value

open Cert.DxIdeal Cert.DxIdeal.Gen Cert.Rows

variable (m : (ℓ : Loc nD τ sig) → Buf (Elt Ideal) ℓ) (ρ : Dev nD → PrngReg)

/-! ## The carried weight -/

/-- The dequantised weight of the arguments. -/
def wA (c : Dev nD) : FVec Ideal S1792x2304 .bf16 := fun i => deq (a4 m c) (a5 m c) (i 0) (i 1)

theorem wA_first (c : Dev nD) (t : Fin cfg0.N) : k0_pay1 (F := Ideal) (iblk m c 4 t) (iblk m c 5 t) = wA m c := by
  funext i
  obtain ⟨d, j, rfl⟩ : ∃ (d : Fin 1792) (j : Fin 2304), i = ix2 (n0 := 1792) (n1 := 2304) d j := ⟨i 0, i 1, eq_ix2 i⟩
  refine (pay1_apply _ _ d j).trans ?_
  unfold deq
  exact congrArg₂ (· * ·) (iblk4_apply m c t d j) (iblk5_apply m c t 0 j)

/-- At every point the carried weight is the dequantised weight. -/
theorem scratch_eq (c : Dev nD) : ∀ (n : Nat) (hn : n < cfg0.N), (outsAt0 m c n hn).2.2.2.2.2 = wA m c := by
  intro n
  induction n with
  | zero =>
    intro hn
    have e := outsAt0_A m c ⟨0, hn⟩ (Nat.zero_mod _)
    dsimp only at e
    rw [e]
    dsimp only
    rw [sout_A]
    exact wA_first m c _
  | succ n ih =>
    intro hn
    have hN : cfg0.N = 5 := N_0
    have h0 : ¬ (⟨n + 1, hn⟩ : Fin cfg0.N).val % 5 = 0 := by show ¬ (n + 1) % 5 = 0; omega
    have e := outsAt0_B m c ⟨n + 1, hn⟩ h0
    dsimp only at e
    rw [e]
    dsimp only [sout0_B_0]
    simp only [Nat.add_sub_cancel]
    exact ih (by omega)

/-! ## What a point leaves, as functions of the arguments -/

/-- Point `t`'s total. -/
def totP (c : Dev nD) (t : Fin cfg0.N) : FVec Ideal S384x1792 .f32 :=
  totalT (F := Ideal) (iblk m c 0 t) (iblk m c 1 t) (iblk m c 2 t) (iblk m c 3 t) (iblk m c 6 t) (iblk m c 7 t) (wA m c)

theorem scratch_prev (c : Dev nD) (t : Fin cfg0.N) (h : t.val - 1 < cfg0.N) : (outsAt0 m c (t.val - 1) h).2.2.2.2.2 = wA m c :=
  scratch_eq m c _ h

theorem outs8 (c : Dev nD) (t : Fin cfg0.N) : (outsAt0 m c t.val t.isLt).1 = truncf .bf16 (totP m c t) bitsLt_bf16_f32 := by
  by_cases h0 : t.val % 5 = 0
  · rw [outsAt0_A m c t h0]
    dsimp only
    rw [out8_A, wA_first]
    rfl
  · rw [outsAt0_B m c t h0]
    dsimp only
    rw [out8_B, scratch_prev]
    rfl

theorem outs10 (c : Dev nD) (t : Fin cfg0.N) : (outsAt0 m c t.val t.isLt).2.2.1 = View.canon (piecesT (totP m c t)) := by
  by_cases h0 : t.val % 5 = 0
  · rw [outsAt0_A m c t h0]
    dsimp only
    rw [out10_A, wA_first]
    rfl
  · rw [outsAt0_B m c t h0]
    dsimp only
    rw [out10_B, scratch_prev]
    rfl

theorem outs11 (c : Dev nD) (t : Fin cfg0.N) : (outsAt0 m c t.val t.isLt).2.2.2.1 = lanesT (totP m c t) := by
  by_cases h0 : t.val % 5 = 0
  · rw [outsAt0_A m c t h0]
    dsimp only
    rw [out11_A, wA_first]
    rfl
  · rw [outsAt0_B m c t h0]
    dsimp only
    rw [out11_B, scratch_prev]
    rfl

theorem outs12 (c : Dev nD) (t : Fin cfg0.N) : (outsAt0 m c t.val t.isLt).2.2.2.2.1 = k0_pay6 (F := Ideal) (iblk m c 3 t) (iblk m c 2 t) (iblk m c 0 t) (iblk m c 1 t) := by
  by_cases h0 : t.val % 5 = 0
  · rw [outsAt0_A m c t h0]
    dsimp only
    rw [out12_A]
  · rw [outsAt0_B m c t h0]
    dsimp only
    rw [out12_B]

/-- Row `r` of point `t`'s total is the gradient of token `384 t + r`. -/
theorem totP_apply (c : Dev nD) (t : Fin cfg0.N) (r : Fin 384) (d : Fin 1792) (q : Fin 1920) (hq : q.val = 384 * t.val + r.val) :
    totP m c t (ix2 (n0 := 384) (n1 := 1792) r d) = tot (a0 m c) (a1 m c) (a2 m c) (a3 m c) (a4 m c) (a5 m c) (a6 m c) (a7 m c) q d := by
  unfold totP
  refine (totalT_apply _ _ _ _ _ _ _ r d).trans ?_
  rw [tok_iblk m c t r q hq, gamma_iblk]
  rfl

/-- The same, for the whole row. -/
theorem rowT_totP (c : Dev nD) (t : Fin cfg0.N) (r : Fin 384) (q : Fin 1920) (hq : q.val = 384 * t.val + r.val) :
    rowT (totP m c t) r = tot (a0 m c) (a1 m c) (a2 m c) (a3 m c) (a4 m c) (a5 m c) (a6 m c) (a7 m c) q :=
  funext fun d => totP_apply m c t r d q hq

end Cert.DxIdeal.Value

end
-- ==== Proof.K.DxBlocks.lean ====
/-
  FOUR OF THE dx CALL'S RESULTS: dx, its codes, its scales and x_hat. Each point writes its 384 rows of each; the five
  points' blocks make the whole arrays.
-/
module

public import proofs.«01_k».proof.Proof.K.DxPoint

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DxIdeal.Value

open Cert.DxIdeal Cert.DxIdeal.Gen Cert.Rows

variable (m : (ℓ : Loc nD τ sig) → Buf (Elt Ideal) ℓ) (ρ : Dev nD → PrngReg)

/-! ## The written blocks -/

/-- A block whose row `r` is row `384 t + r` of `G` is what point `t`'s window reads of `G`. -/
theorem cut8 (t : Fin cfg0.N) (L : FVec Ideal S384x1792 .bf16) (G : FVec Ideal S1920x1792 .bf16)
    (h : ∀ (r : Fin 384) (d : Fin 1792) (q : Fin 1920), q.val = 384 * t.val + r.val →
      L (ix2 (n0 := 384) (n1 := 1792) r d) = G (ix2 (n0 := 1920) (n1 := 1792) q d)) :
    (cfg0.win 8).cut (grid0.coords t) L = ((cfg0.win 8).blk t).view.read (Elt Ideal) G := by
  funext j
  rw [View.read_apply]
  have hN : t.val < 5 := lt_of_lt_of_eq t.isLt N_0
  obtain ⟨r, d, rfl⟩ : ∃ (r : Fin 384) (d : Fin 1792), j = ix2 (n0 := 384) (n1 := 1792) r d := ⟨j 0, j 1, eq_ix2 (n0 := 384) (n1 := 1792) j⟩
  have e : ((cfg0.win 8).blk t).view.emb (ix2 (n0 := 384) (n1 := 1792) r d)
      = ix2 (n0 := 1920) (n1 := 1792) ⟨384 * t.val + r.val, by omega⟩ d := by
    funext a
    apply Fin.ext
    match a with
    | ⟨0, _⟩ => show win0_8.index t 0 * 384 + 1 * r.val = 384 * t.val + r.val; rw [(index8 t).1]; omega
    | ⟨1, _⟩ => show win0_8.index t 1 * 1792 + 1 * d.val = d.val; rw [(index8 t).2]; omega
  refine Eq.trans ?_ (congrArg G e).symm
  exact h r d _ rfl

/-- Point `t` writes back rows `384 t … 384 t + 383` of dx. -/
theorem written8 (c : Dev nD) (t : Fin cfg0.N) :
    (dats m 0 c).flushed 8 t = ((cfg0.win 8).blk t).view.read (Elt Ideal) (dxA (a0 m c) (a1 m c) (a2 m c) (a3 m c) (a4 m c) (a5 m c) (a6 m c) (a7 m c)) := by
  rw [flushed8, outs8]
  refine cut8 t _ _ fun r d q hq => ?_
  exact totP_apply m c t r d q hq

/-- The five blocks cover the array. -/
theorem final8' (c : Dev nD) : (dats m 0 c).arrAt 8 cfg0.N = dxA (a0 m c) (a1 m c) (a2 m c) (a3 m c) (a4 m c) (a5 m c) (a6 m c) (a7 m c) :=
  (dats m 0 c).arrAt_eq_of_cover 8 (dxA (a0 m c) (a1 m c) (a2 m c) (a3 m c) (a4 m c) (a5 m c) (a6 m c) (a7 m c)) (fun t _ => written8 m c t) fun i => by
    have h0 : (i 0 : Nat) < 1920 := (i 0).isLt
    have h1 : (i 1 : Nat) < 1792 := (i 1).isLt
    have hN : cfg0.N = 5 := N_0
    obtain ⟨t, ht⟩ : ∃ t : Fin cfg0.N, t.val = (i 0 : Nat) / 384 := ⟨⟨(i 0 : Nat) / 384, by omega⟩, rfl⟩
    refine ⟨t, flush0_8 t, ?_⟩
    show i ∈ ((View.whole main_v7_0).slice (win0_8.rect t)).set
    rw [View.set_slice_whole, Rect.mem_set_unit]
    intro a
    have hi := index8 t
    match a with
    | ⟨0, _⟩ =>
      show win0_8.index t 0 * 384 ≤ (i 0 : Nat) ∧ (i 0 : Nat) < win0_8.index t 0 * 384 + 384
      rw [hi.1, ht]; omega
    | ⟨1, _⟩ =>
      show win0_8.index t 1 * 1792 ≤ (i 1 : Nat) ∧ (i 1 : Nat) < win0_8.index t 1 * 1792 + 1792
      rw [hi.2]; omega

/-- A block whose row `r` is row `384 t + r` of `G` is what point `t`'s window reads of `G`. -/
theorem cut10 (t : Fin cfg0.N) (L : FVec Ideal S384x1792 .fp8e5m2) (G : FVec Ideal S1920x1792 .fp8e5m2)
    (h : ∀ (r : Fin 384) (d : Fin 1792) (q : Fin 1920), q.val = 384 * t.val + r.val →
      L (ix2 (n0 := 384) (n1 := 1792) r d) = G (ix2 (n0 := 1920) (n1 := 1792) q d)) :
    (cfg0.win 10).cut (grid0.coords t) L = ((cfg0.win 10).blk t).view.read (Elt Ideal) G := by
  funext j
  rw [View.read_apply]
  have hN : t.val < 5 := lt_of_lt_of_eq t.isLt N_0
  obtain ⟨r, d, rfl⟩ : ∃ (r : Fin 384) (d : Fin 1792), j = ix2 (n0 := 384) (n1 := 1792) r d := ⟨j 0, j 1, eq_ix2 (n0 := 384) (n1 := 1792) j⟩
  have e : ((cfg0.win 10).blk t).view.emb (ix2 (n0 := 384) (n1 := 1792) r d)
      = ix2 (n0 := 1920) (n1 := 1792) ⟨384 * t.val + r.val, by omega⟩ d := by
    funext a
    apply Fin.ext
    match a with
    | ⟨0, _⟩ => show win0_10.index t 0 * 384 + 1 * r.val = 384 * t.val + r.val; rw [(index10 t).1]; omega
    | ⟨1, _⟩ => show win0_10.index t 1 * 1792 + 1 * d.val = d.val; rw [(index10 t).2]; omega
  refine Eq.trans ?_ (congrArg G e).symm
  exact h r d _ rfl

/-- Point `t` writes back rows `384 t … 384 t + 383` of the codes of dx. -/
theorem written10 (c : Dev nD) (t : Fin cfg0.N) :
    (dats m 0 c).flushed 10 t = ((cfg0.win 10).blk t).view.read (Elt Ideal) (dxcA (a0 m c) (a1 m c) (a2 m c) (a3 m c) (a4 m c) (a5 m c) (a6 m c) (a7 m c)) := by
  rw [flushed10, outs10, pieces_apply]
  refine cut10 t _ _ fun r d q hq => ?_
  unfold codesRow dxcA
  exact congrArg (fun f => code f ⟨d.val / 128, by omega⟩ ⟨d.val % 128, Nat.mod_lt _ (by omega)⟩) (rowT_totP m c t r q hq)

/-- The five blocks cover the array. -/
theorem final10' (c : Dev nD) : (dats m 0 c).arrAt 10 cfg0.N = dxcA (a0 m c) (a1 m c) (a2 m c) (a3 m c) (a4 m c) (a5 m c) (a6 m c) (a7 m c) :=
  (dats m 0 c).arrAt_eq_of_cover 10 (dxcA (a0 m c) (a1 m c) (a2 m c) (a3 m c) (a4 m c) (a5 m c) (a6 m c) (a7 m c)) (fun t _ => written10 m c t) fun i => by
    have h0 : (i 0 : Nat) < 1920 := (i 0).isLt
    have h1 : (i 1 : Nat) < 1792 := (i 1).isLt
    have hN : cfg0.N = 5 := N_0
    obtain ⟨t, ht⟩ : ∃ t : Fin cfg0.N, t.val = (i 0 : Nat) / 384 := ⟨⟨(i 0 : Nat) / 384, by omega⟩, rfl⟩
    refine ⟨t, flush0_10 t, ?_⟩
    show i ∈ ((View.whole main_v7_2).slice (win0_10.rect t)).set
    rw [View.set_slice_whole, Rect.mem_set_unit]
    intro a
    have hi := index10 t
    match a with
    | ⟨0, _⟩ =>
      show win0_10.index t 0 * 384 ≤ (i 0 : Nat) ∧ (i 0 : Nat) < win0_10.index t 0 * 384 + 384
      rw [hi.1, ht]; omega
    | ⟨1, _⟩ =>
      show win0_10.index t 1 * 1792 ≤ (i 1 : Nat) ∧ (i 1 : Nat) < win0_10.index t 1 * 1792 + 1792
      rw [hi.2]; omega

/-- A block whose row `r` is row `384 t + r` of `G` is what point `t`'s window reads of `G`. -/
theorem cut11 (t : Fin cfg0.N) (L : FVec Ideal S384x14 .f32) (G : FVec Ideal S1920x14 .f32)
    (h : ∀ (r : Fin 384) (d : Fin 14) (q : Fin 1920), q.val = 384 * t.val + r.val →
      L (ix2 (n0 := 384) (n1 := 14) r d) = G (ix2 (n0 := 1920) (n1 := 14) q d)) :
    (cfg0.win 11).cut (grid0.coords t) L = ((cfg0.win 11).blk t).view.read (Elt Ideal) G := by
  funext j
  rw [View.read_apply]
  have hN : t.val < 5 := lt_of_lt_of_eq t.isLt N_0
  obtain ⟨r, d, rfl⟩ : ∃ (r : Fin 384) (d : Fin 14), j = ix2 (n0 := 384) (n1 := 14) r d := ⟨j 0, j 1, eq_ix2 (n0 := 384) (n1 := 14) j⟩
  have e : ((cfg0.win 11).blk t).view.emb (ix2 (n0 := 384) (n1 := 14) r d)
      = ix2 (n0 := 1920) (n1 := 14) ⟨384 * t.val + r.val, by omega⟩ d := by
    funext a
    apply Fin.ext
    match a with
    | ⟨0, _⟩ => show win0_11.index t 0 * 384 + 1 * r.val = 384 * t.val + r.val; rw [(index11 t).1]; omega
    | ⟨1, _⟩ => show win0_11.index t 1 * 14 + 1 * d.val = d.val; rw [(index11 t).2]; omega
  refine Eq.trans ?_ (congrArg G e).symm
  exact h r d _ rfl

/-- Point `t` writes back rows `384 t … 384 t + 383` of the scales of dx. -/
theorem written11 (c : Dev nD) (t : Fin cfg0.N) :
    (dats m 0 c).flushed 11 t = ((cfg0.win 11).blk t).view.read (Elt Ideal) (dxsA (a0 m c) (a1 m c) (a2 m c) (a3 m c) (a4 m c) (a5 m c) (a6 m c) (a7 m c)) := by
  rw [flushed11, outs11]
  refine cut11 t _ _ fun r d q hq => ?_
  unfold dxsA
  exact (lanesT_apply _ r d).trans (congrArg (fun f => scl f d) (rowT_totP m c t r q hq))

/-- The five blocks cover the array. -/
theorem final11' (c : Dev nD) : (dats m 0 c).arrAt 11 cfg0.N = dxsA (a0 m c) (a1 m c) (a2 m c) (a3 m c) (a4 m c) (a5 m c) (a6 m c) (a7 m c) :=
  (dats m 0 c).arrAt_eq_of_cover 11 (dxsA (a0 m c) (a1 m c) (a2 m c) (a3 m c) (a4 m c) (a5 m c) (a6 m c) (a7 m c)) (fun t _ => written11 m c t) fun i => by
    have h0 : (i 0 : Nat) < 1920 := (i 0).isLt
    have h1 : (i 1 : Nat) < 14 := (i 1).isLt
    have hN : cfg0.N = 5 := N_0
    obtain ⟨t, ht⟩ : ∃ t : Fin cfg0.N, t.val = (i 0 : Nat) / 384 := ⟨⟨(i 0 : Nat) / 384, by omega⟩, rfl⟩
    refine ⟨t, flush0_11 t, ?_⟩
    show i ∈ ((View.whole main_v7_3).slice (win0_11.rect t)).set
    rw [View.set_slice_whole, Rect.mem_set_unit]
    intro a
    have hi := index11 t
    match a with
    | ⟨0, _⟩ =>
      show win0_11.index t 0 * 384 ≤ (i 0 : Nat) ∧ (i 0 : Nat) < win0_11.index t 0 * 384 + 384
      rw [hi.1, ht]; omega
    | ⟨1, _⟩ =>
      show win0_11.index t 1 * 14 ≤ (i 1 : Nat) ∧ (i 1 : Nat) < win0_11.index t 1 * 14 + 14
      rw [hi.2]; omega

/-- A block whose row `r` is row `384 t + r` of `G` is what point `t`'s window reads of `G`. -/
theorem cut12 (t : Fin cfg0.N) (L : FVec Ideal S384x1792 .bf16) (G : FVec Ideal S1920x1792 .bf16)
    (h : ∀ (r : Fin 384) (d : Fin 1792) (q : Fin 1920), q.val = 384 * t.val + r.val →
      L (ix2 (n0 := 384) (n1 := 1792) r d) = G (ix2 (n0 := 1920) (n1 := 1792) q d)) :
    (cfg0.win 12).cut (grid0.coords t) L = ((cfg0.win 12).blk t).view.read (Elt Ideal) G := by
  funext j
  rw [View.read_apply]
  have hN : t.val < 5 := lt_of_lt_of_eq t.isLt N_0
  obtain ⟨r, d, rfl⟩ : ∃ (r : Fin 384) (d : Fin 1792), j = ix2 (n0 := 384) (n1 := 1792) r d := ⟨j 0, j 1, eq_ix2 (n0 := 384) (n1 := 1792) j⟩
  have e : ((cfg0.win 12).blk t).view.emb (ix2 (n0 := 384) (n1 := 1792) r d)
      = ix2 (n0 := 1920) (n1 := 1792) ⟨384 * t.val + r.val, by omega⟩ d := by
    funext a
    apply Fin.ext
    match a with
    | ⟨0, _⟩ => show win0_12.index t 0 * 384 + 1 * r.val = 384 * t.val + r.val; rw [(index12 t).1]; omega
    | ⟨1, _⟩ => show win0_12.index t 1 * 1792 + 1 * d.val = d.val; rw [(index12 t).2]; omega
  refine Eq.trans ?_ (congrArg G e).symm
  exact h r d _ rfl

/-- Point `t` writes back rows `384 t … 384 t + 383` of x_hat. -/
theorem written12 (c : Dev nD) (t : Fin cfg0.N) :
    (dats m 0 c).flushed 12 t = ((cfg0.win 12).blk t).view.read (Elt Ideal) (xhA (a0 m c) (a1 m c) (a2 m c) (a3 m c) (a6 m c) (a7 m c)) := by
  rw [flushed12, outs12]
  refine cut12 t _ _ fun r d q hq => ?_
  refine (pay6_apply (iblk m c 0 t) (iblk m c 1 t) (iblk m c 2 t) (iblk m c 3 t) (iblk m c 6 t) (iblk m c 7 t) r d).trans ?_
  rw [tok_iblk m c t r q hq, gamma_iblk]
  rfl

/-- The five blocks cover the array. -/
theorem final12' (c : Dev nD) : (dats m 0 c).arrAt 12 cfg0.N = xhA (a0 m c) (a1 m c) (a2 m c) (a3 m c) (a6 m c) (a7 m c) :=
  (dats m 0 c).arrAt_eq_of_cover 12 (xhA (a0 m c) (a1 m c) (a2 m c) (a3 m c) (a6 m c) (a7 m c)) (fun t _ => written12 m c t) fun i => by
    have h0 : (i 0 : Nat) < 1920 := (i 0).isLt
    have h1 : (i 1 : Nat) < 1792 := (i 1).isLt
    have hN : cfg0.N = 5 := N_0
    obtain ⟨t, ht⟩ : ∃ t : Fin cfg0.N, t.val = (i 0 : Nat) / 384 := ⟨⟨(i 0 : Nat) / 384, by omega⟩, rfl⟩
    refine ⟨t, flush0_12 t, ?_⟩
    show i ∈ ((View.whole main_v7_4).slice (win0_12.rect t)).set
    rw [View.set_slice_whole, Rect.mem_set_unit]
    intro a
    have hi := index12 t
    match a with
    | ⟨0, _⟩ =>
      show win0_12.index t 0 * 384 ≤ (i 0 : Nat) ∧ (i 0 : Nat) < win0_12.index t 0 * 384 + 384
      rw [hi.1, ht]; omega
    | ⟨1, _⟩ =>
      show win0_12.index t 1 * 1792 ≤ (i 1 : Nat) ∧ (i 1 : Nat) < win0_12.index t 1 * 1792 + 1792
      rw [hi.2]; omega

end Cert.DxIdeal.Value

end
-- ==== Proof.K.DxGamma.lean ====
/-
  dgamma: the block stays in place over the grid, each point adds its tile's sum, and the last point's block is the sum
  over the 1920 tokens.
-/
module

public import proofs.«01_k».proof.Proof.K.DxBlocks

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DxIdeal.Value

open Cert.DxIdeal Cert.DxIdeal.Gen Cert.Rows

variable (m : (ℓ : Loc nD τ sig) → Buf (Elt Ideal) ℓ) (ρ : Dev nD → PrngReg)

/-! ## dgamma -/

/-- Token number `q`'s term of dgamma (nothing past the last token). -/
def term (c : Dev nD) (d : Fin 1792) (q : Nat) : EReal :=
  if h : q < 1920 then (tok (a0 m c) (a1 m c) (a2 m c) (a6 m c) (a7 m c) ⟨q, h⟩).dga (deq (a4 m c) (a5 m c)) d else 0

/-- One point adds its tile's terms. -/
theorem step9 (c : Dev nD) (t : Fin cfg0.N) (acc : FVec Ideal S1x1792 .f32) (d : Fin 1792) :
    k0_pay8 (F := Ideal) (iblk m c 2 t) (iblk m c 0 t) (iblk m c 1 t) (iblk m c 6 t) (wA m c) acc (ix2 (n0 := 1) (n1 := 1792) 0 d)
      = acc (ix2 (n0 := 1) (n1 := 1792) 0 d) + ∑ r : Fin 384, term m c d (384 * t.val + r.val) := by
  have hN : t.val < 5 := lt_of_lt_of_eq t.isLt N_0
  refine (pay8_apply (iblk m c 0 t) (iblk m c 1 t) (iblk m c 2 t) (iblk m c 6 t) (iblk m c 7 t) (wA m c) acc d).trans ?_
  refine congrArg (acc _ + ·) (Finset.sum_congr rfl fun r _ => ?_)
  have hr : 384 * t.val + r.val < 1920 := by omega
  rw [tok_iblk m c t r ⟨384 * t.val + r.val, hr⟩ rfl]
  unfold term
  rw [dif_pos hr]
  rfl

/-- After point `n` dgamma holds the terms of tiles `0 … n`. -/
theorem acc9 (c : Dev nD) (d : Fin 1792) : ∀ (n : Nat) (hn : n < cfg0.N), (outsAt0 m c n hn).2.1 (ix2 (n0 := 1) (n1 := 1792) 0 d)
    = ∑ p ∈ Finset.range (n + 1), ∑ r : Fin 384, term m c d (384 * p + r.val) := by
  intro n
  induction n with
  | zero =>
    intro hn
    have e := outsAt0_A m c ⟨0, hn⟩ (Nat.zero_mod _)
    dsimp only at e
    rw [e]
    dsimp only
    rw [out9_A, wA_first]
    refine (step9 m c ⟨0, hn⟩ _ d).trans ?_
    rw [Finset.sum_range_one]
    refine Eq.trans (congrArg (· + _) ?_) (zero_add _)
    exact Ideal.ofBits_zero_f32
  | succ n ih =>
    intro hn
    have hN : cfg0.N = 5 := N_0
    have h0 : ¬ (⟨n + 1, hn⟩ : Fin cfg0.N).val % 5 = 0 := by show ¬ (n + 1) % 5 = 0; omega
    have e := outsAt0_B m c ⟨n + 1, hn⟩ h0
    dsimp only at e
    rw [e]
    dsimp only
    rw [out9_B, scratch_eq]
    refine (step9 m c ⟨n + 1, hn⟩ _ d).trans ?_
    rw [Finset.sum_range_succ]
    simp only [Nat.add_sub_cancel]
    rw [ih (by omega)]

/-- The five tiles' sums are the sum over the 1920 tokens. -/
theorem sum_tiles (c : Dev nD) (d : Fin 1792) :
    ∑ p ∈ Finset.range 5, ∑ r : Fin 384, term m c d (384 * p + r.val)
      = ∑ q : Fin 1920, (tok (a0 m c) (a1 m c) (a2 m c) (a6 m c) (a7 m c) q).dga (deq (a4 m c) (a5 m c)) d := by
  rw [Finset.sum_range, ← Fintype.sum_prod_type' (f := fun (p : Fin 5) (r : Fin 384) => term m c d (384 * p.val + r.val))]
  refine Fintype.sum_equiv (finProdFinEquiv (m := 5) (n := 384)) _ _ fun x => ?_
  have hr : 384 * x.1.val + x.2.val < 1920 := by omega
  unfold term
  rw [dif_pos hr]
  have e : (⟨384 * x.1.val + x.2.val, hr⟩ : Fin 1920) = finProdFinEquiv (m := 5) (n := 384) x := Fin.ext (by
    show 384 * x.1.val + x.2.val = x.2.val + 384 * x.1.val
    omega)
  exact congrArg (fun q => (tok (a0 m c) (a1 m c) (a2 m c) (a6 m c) (a7 m c) q).dga (deq (a4 m c) (a5 m c)) d) e

/-- The last point writes dgamma back. -/
theorem written9 (c : Dev nD) (t : Fin cfg0.N) (hf : (cfg0.win 9).flush t = true) :
    (dats m 0 c).flushed 9 t
      = ((cfg0.win 9).blk t).view.read (Elt Ideal) (dgA (a0 m c) (a1 m c) (a2 m c) (a4 m c) (a5 m c) (a6 m c) (a7 m c)) := by
  have ht : t.val % 5 = 4 := (flush0_9 t).mp hf
  have hN : t.val < 5 := lt_of_lt_of_eq t.isLt N_0
  have ht4 : t.val + 1 = 5 := by omega
  rw [flushed9]
  funext j
  rw [View.read_apply]
  obtain ⟨r, d, rfl⟩ : ∃ (r : Fin 1) (d : Fin 1792), j = ix2 (n0 := 1) (n1 := 1792) r d := ⟨j 0, j 1, eq_ix2 (n0 := 1) (n1 := 1792) j⟩
  have e : ((cfg0.win 9).blk t).view.emb (ix2 (n0 := 1) (n1 := 1792) r d) = ix2 (n0 := 1) (n1 := 1792) r d := by
    funext a
    apply Fin.ext
    match a with
    | ⟨0, _⟩ => show win0_9.index t 0 * 1 + 1 * r.val = r.val; rw [(index9 t).1]; omega
    | ⟨1, _⟩ => show win0_9.index t 1 * 1792 + 1 * d.val = d.val; rw [(index9 t).2]; omega
  refine Eq.trans ?_ (congrArg (dgA (a0 m c) (a1 m c) (a2 m c) (a4 m c) (a5 m c) (a6 m c) (a7 m c)) e).symm
  obtain rfl : r = 0 := Subsingleton.elim _ _
  show (outsAt0 m c t.val t.isLt).2.1 (ix2 (n0 := 1) (n1 := 1792) 0 d) = _
  rw [acc9, ht4, sum_tiles]
  rfl

/-- The last point's block is the whole of dgamma. -/
theorem final9' (c : Dev nD) : (dats m 0 c).arrAt 9 cfg0.N = dgA (a0 m c) (a1 m c) (a2 m c) (a4 m c) (a5 m c) (a6 m c) (a7 m c) :=
  (dats m 0 c).arrAt_eq_of_cover 9 (dgA (a0 m c) (a1 m c) (a2 m c) (a4 m c) (a5 m c) (a6 m c) (a7 m c)) (fun t hf => written9 m c t hf) fun i => by
    have h0 : (i 0 : Nat) < 1 := (i 0).isLt
    have h1 : (i 1 : Nat) < 1792 := (i 1).isLt
    have hN : cfg0.N = 5 := N_0
    obtain ⟨t, ht⟩ : ∃ t : Fin cfg0.N, t.val = 4 := ⟨⟨4, by omega⟩, rfl⟩
    refine ⟨t, (flush0_9 t).mpr (by rw [ht]), ?_⟩
    show i ∈ ((View.whole main_v7_1).slice (win0_9.rect t)).set
    rw [View.set_slice_whole, Rect.mem_set_unit]
    intro a
    have hi := index9 t
    match a with
    | ⟨0, _⟩ =>
      show win0_9.index t 0 * 1 ≤ (i 0 : Nat) ∧ (i 0 : Nat) < win0_9.index t 0 * 1 + 1
      rw [hi.1]; omega
    | ⟨1, _⟩ =>
      show win0_9.index t 1 * 1792 ≤ (i 1 : Nat) ∧ (i 1 : Nat) < win0_9.index t 1 * 1792 + 1792
      rw [hi.2]; omega

end Cert.DxIdeal.Value

end
-- ==== Proof.K.DxRefGrad.lean ====
/-
  WHAT THE REFERENCE COMPUTES, up to the quantiser, read at an index over the extended reals: row `r` of each of its arrays
  is the row function (`Cert.Rows`) of token `r`'s arguments.
-/
module

public import proofs.«01_k».proof.Proof.K.DxGamma
public import proofs.«01_k».proof.Proof.Gen.DxRefIdeal.Value

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DxRefIdeal.Value

open Cert.DxRefIdeal Cert.DxRefIdeal.Gen Cert.Rows

section Grad
variable (x0 : Vec Ideal S1920x1792 .fp8e4m3) (x1 x2 : Vec Ideal S1920x1 .f32) (x3 : Vec Ideal S1x1792 .f32)
  (x4 : Vec Ideal S1792x2304 .fp8e4m3) (x5 : Vec Ideal S1x2304 .f32)
  (x6 : Vec Ideal S1920x2304 .bf16) (x7 : Vec Ideal S1920x1792 .bf16)

/-- The normalised activation. -/
theorem nrm_apply (r : Fin 1920) (d : Fin 1792) :
    k0_pay2 (F := Ideal) x0 x1 x2 (ix2 (n0 := 1920) (n1 := 1792) r d) = (tok x0 x1 x2 x6 x7 r).nrm d := by
  unfold k0_pay2
  simp only [shapeCast_self]
  show x0 _ * broadcastTo S1920x1792 x1 _ _ * broadcastTo S1920x1792 x2 _ _ = _
  rw [col_apply, col_apply]
  rfl

/-- x_hat. -/
theorem xhat_eq : k0_pay3 (F := Ideal) x0 x1 x2 x3 = xhA x0 x1 x2 x3 x6 x7 := by
  funext i
  obtain ⟨r, d, rfl⟩ : ∃ (r : Fin 1920) (d : Fin 1792), i = ix2 (n0 := 1920) (n1 := 1792) r d := ⟨i 0, i 1, eq_ix2 i⟩
  unfold k0_pay3
  simp only [shapeCast_self]
  show k0_pay2 (F := Ideal) x0 x1 x2 _ * broadcastTo S1920x1792 x3 _ _ = _
  rw [row_apply, nrm_apply x0 x1 x2 x6 x7]
  rfl

/-- The product with the transposed dequantised weight. -/
theorem dxh_apply (r : Fin 1920) (d : Fin 1792) :
    k0_pay4 (F := Ideal) x4 x5 x6 (ix2 (n0 := 1920) (n1 := 1792) r d) = (tok x0 x1 x2 x6 x7 r).dxh (deq x4 x5) d := by
  unfold k0_pay4
  simp only [shapeCast_self]
  refine (Ideal.matmul_constant_zero_apply (φ₁ := .bf16) (φ₂ := .bf16) dot_S1920x2304_S1792x2304_S1920x1792_1_1_0_0_n_n none x6 _ _).trans ?_
  rw [← Equiv.sum_comp (contrEquiv1 dot_S1920x2304_S1792x2304_S1920x1792_1_1_0_0_n_n 2304 rfl rfl).symm]
  refine Finset.sum_congr rfl fun t _ => ?_
  show x6 _ * (x4 _ * broadcastTo S1792x2304 _ _ _) = x6 _ * deq x4 x5 d t
  refine congrArg₂ (· * ·) ?_ ?_
  · congr 1; funext a; match a with | ⟨0, _⟩ => rfl | ⟨1, _⟩ => rfl
  · have e : (dot_S1920x2304_S1792x2304_S1920x1792_1_1_0_0_n_n.rhsIdx (ix2 (n0 := 1920) (n1 := 1792) r d)
        ((contrEquiv1 dot_S1920x2304_S1792x2304_S1920x1792_1_1_0_0_n_n 2304 rfl rfl).symm t)) = ix2 (n0 := 1792) (n1 := 2304) d t := by
      funext a; match a with | ⟨0, _⟩ => rfl | ⟨1, _⟩ => rfl
    rw [e, row_apply]
    rfl

/-- dgamma. -/
theorem dgamma_eq : k0_pay5 (F := Ideal) x0 x1 x2 x4 x5 x6 = dgA x0 x1 x2 x4 x5 x6 x7 := by
  funext i
  obtain ⟨z, d, rfl⟩ : ∃ (z : Fin 1) (d : Fin 1792), i = ix2 (n0 := 1) (n1 := 1792) z d := ⟨i 0, i 1, eq_ix2 i⟩
  unfold k0_pay5
  refine (toRow_apply _ _ z d).trans ?_
  refine (sumCol_apply (n := 1920) (m := 1792) _ 0x00000000#32 reduces_S1920x1792_S1792 (.inl rfl) rfl d).trans ?_
  unfold dgA
  refine Finset.sum_congr rfl fun r _ => ?_
  show k0_pay4 (F := Ideal) x4 x5 x6 _ * k0_pay2 (F := Ideal) x0 x1 x2 _ = _
  rw [dxh_apply x0 x1 x2 x4 x5 x6 x7, nrm_apply x0 x1 x2 x6 x7]
  rfl

/-- The gradient of the normalised activation. -/
theorem grd_apply (r : Fin 1920) (d : Fin 1792) :
    k0_pay6 (F := Ideal) x4 x5 x6 x3 (ix2 (n0 := 1920) (n1 := 1792) r d)
      = (tok x0 x1 x2 x6 x7 r).grd (fun e => x3 (ix2 (n0 := 1) (n1 := 1792) 0 e)) (deq x4 x5) d := by
  unfold k0_pay6
  simp only [shapeCast_self]
  show k0_pay4 (F := Ideal) x4 x5 x6 _ * broadcastTo S1920x1792 x3 _ _ = _
  rw [row_apply, dxh_apply x0 x1 x2 x4 x5 x6 x7]
  rfl

/-- The total gradient. -/
theorem total_eq : k0_pay7 (F := Ideal) (k0_pay2 (F := Ideal) x0 x1 x2) (k0_pay6 (F := Ideal) x4 x5 x6 x3) x2 x7
    = dxA x0 x1 x2 x3 x4 x5 x6 x7 := by
  funext i
  obtain ⟨r, d, rfl⟩ : ∃ (r : Fin 1920) (d : Fin 1792), i = ix2 (n0 := 1920) (n1 := 1792) r d := ⟨i 0, i 1, eq_ix2 i⟩
  unfold k0_pay7
  simp only [shapeCast_self]
  show broadcastTo S1920x1792 x2 _ _ * (k0_pay6 (F := Ideal) x4 x5 x6 x3 _ - k0_pay2 (F := Ideal) x0 x1 x2 _ * broadcastTo S1920x1792 _ _ _) + x7 _ = _
  rw [col_apply, col_apply, grd_apply x0 x1 x2 x3 x4 x5 x6 x7, nrm_apply x0 x1 x2 x6 x7]
  show _ * (_ - _ * Ideal.div (shapeCast S1920x1 _ _ _) _) + _ = _
  rw [toCol_apply]
  have e : ∀ d, (mulf (k0_pay6 (F := Ideal) x4 x5 x6 x3) (k0_pay2 (F := Ideal) x0 x1 x2)) (ix2 (n0 := 1920) (n1 := 1792) r d)
      = (tok x0 x1 x2 x6 x7 r).grd (fun e => x3 (ix2 (n0 := 1) (n1 := 1792) 0 e)) (deq x4 x5) d
        * (tok x0 x1 x2 x6 x7 r).nrm d := fun d => by
    show k0_pay6 (F := Ideal) x4 x5 x6 x3 _ * k0_pay2 (F := Ideal) x0 x1 x2 _ = _
    rw [grd_apply x0 x1 x2 x3 x4 x5 x6 x7, nrm_apply x0 x1 x2 x6 x7]
  have e' := (sumRow_apply (n := 1920) (m := 1792) (mulf (k0_pay6 (F := Ideal) x4 x5 x6 x3) (k0_pay2 (F := Ideal) x0 x1 x2))
    0x00000000#32 reduces_S1920x1792_S1920 (.inl rfl) rfl r).trans (Finset.sum_congr rfl fun d _ => e d)
  unfold dxA tot Tok.tot Tok.mean
  exact congrArg (fun z => (tok x0 x1 x2 x6 x7 r).rs * ((tok x0 x1 x2 x6 x7 r).grd _ _ d - (tok x0 x1 x2 x6 x7 r).nrm d * Ideal.div z (Ideal.ofBits .f32 0x44E00000#32))
    + (tok x0 x1 x2 x6 x7 r).dr d) e'

end Grad

end Cert.DxRefIdeal.Value

end
-- ==== Proof.K.DxRefQuant.lean ====
/-
  THE REFERENCE'S QUANTISER, read at an index over the extended reals: the least power of two above a group's largest
  magnitude over 57344 is the scale the kernel's search finds (`Cert.Scale.scale_eq`), and one over it the kernel's
  inverse (`Cert.Scale.inv_eq`), so codes and scales are the same row functions.
-/
module

public import proofs.«01_k».proof.Proof.K.DxRefGrad

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DxRefIdeal.Value

open Cert.DxRefIdeal Cert.DxRefIdeal.Gen Cert.Rows

/-! ## Arrays of rank three read at an index -/

section Reads
variable {α : Type} {n m k : Nat}

/-- One value per row and group broadcast over `k` lanes. -/
theorem lane_apply (v : (⟨3, ![n, m, 1]⟩ : Shape).Idx → α) (h : (⟨3, ![n, m, 1]⟩ : Shape).Broadcasts ⟨3, ![n, m, k]⟩) (r : Fin n) (b : Fin m) (l : Fin k) :
    broadcastTo ⟨3, ![n, m, k]⟩ v h (ix3 r b l) = v (ix3 r b 0) :=
  broadcastTo_apply v h _ _ fun a => by
    match a with
    | ⟨0, _⟩ =>
      show r.val = if n = 1 then 0 else r.val
      split
      · have := r.isLt; omega
      · rfl
    | ⟨1, _⟩ =>
      show b.val = if m = 1 then 0 else b.val
      split
      · have := b.isLt; omega
      · rfl
    | ⟨2, _⟩ => rfl

/-- One value per lane broadcast over the rows and groups. -/
theorem line_apply (v : (⟨3, ![1, 1, k]⟩ : Shape).Idx → α) (h : (⟨3, ![1, 1, k]⟩ : Shape).Broadcasts ⟨3, ![n, m, k]⟩) (r : Fin n) (b : Fin m) (l : Fin k) :
    broadcastTo ⟨3, ![n, m, k]⟩ v h (ix3 r b l) = v (ix3 0 0 l) :=
  broadcastTo_apply v h _ _ fun a => by
    match a with
    | ⟨0, _⟩ => rfl
    | ⟨1, _⟩ => rfl
    | ⟨2, _⟩ =>
      show l.val = if k = 1 then 0 else l.val
      split
      · have := l.isLt; omega
      · rfl

/-- A trailing axis of extent one added. -/
theorem addLane_apply (v : (⟨2, ![n, m]⟩ : Shape).Idx → α) (h : (⟨2, ![n, m]⟩ : Shape).ShapeCasts ⟨3, ![n, m, 1]⟩) (r : Fin n) (b : Fin m) (z : Fin 1) :
    shapeCast ⟨3, ![n, m, 1]⟩ v h (ix3 r b z) = v (ix2 r b) :=
  shapeCast_apply v h _ _ (by
    rw [Shape.rowMajor_val_two, Shape.rowMajor_val_three]
    show r.val * m + b.val = (r.val * m + b.val) * 1 + z.val
    omega)

end Reads

/-- A row of 1792 columns as 14 groups of 128. -/
theorem groups_apply (T : FVec Ideal S1920x1792 .f32) (r : Fin 1920) (b : Fin 14) (l : Fin 128) :
    shapeCast S1920x14x128 T shapeCasts_S1920x1792_S1920x14x128 (ix3 (n0 := 1920) (n1 := 14) (n2 := 128) r b l)
      = group (fun d => T (ix2 (n0 := 1920) (n1 := 1792) r d)) b l :=
  shapeCast_apply T _ _ (ix2 (n0 := 1920) (n1 := 1792) r ⟨128 * b.val + l.val, by omega⟩) (by
    rw [Shape.rowMajor_val_two, Shape.rowMajor_val_three]
    show r.val * 1792 + (128 * b.val + l.val) = (r.val * 14 + b.val) * 128 + l.val
    omega)

/-- 14 groups of 128 as a row of 1792 columns. -/
theorem flat_apply (T : FVec Ideal S1920x14x128 .f32) (r : Fin 1920) (d : Fin 1792) :
    shapeCast S1920x1792 T shapeCasts_S1920x14x128_S1920x1792 (ix2 (n0 := 1920) (n1 := 1792) r d)
      = T (ix3 (n0 := 1920) (n1 := 14) (n2 := 128) r ⟨d.val / 128, by omega⟩ ⟨d.val % 128, Nat.mod_lt _ (by omega)⟩) :=
  shapeCast_apply T _ _ _ (by
    rw [Shape.rowMajor_val_two, Shape.rowMajor_val_three]
    show (r.val * 14 + d.val / 128) * 128 + d.val % 128 = r.val * 1792 + d.val
    omega)

/-- A maximum over the lanes. -/
theorem maxLane_apply (v : FVec Ideal S1920x14x128 .f32) (acc : BitVec 32) (h : S1920x14x128.Reduces [2] S1920x14)
    (hφ : FKind.Formats .f32) (hacc : acc = FKind.maximumf.neutral .f32 hφ) (r : Fin 1920) (b : Fin 14) :
    multiReduction .maximumf [2] S1920x14 v acc h hφ hacc (ix2 (n0 := 1920) (n1 := 14) r b)
      = (Finset.univ : Finset (Fin 128)).fold max (Ideal.ofBits .f32 acc) fun l => v (ix3 (n0 := 1920) (n1 := 14) (n2 := 128) r b l) := by
  refine (Ideal.multiReduction_maximumf_single v acc h hφ hacc _).trans ?_
  refine congrArg (fun f => Finset.fold max (Ideal.ofBits .f32 acc) f (Finset.univ : Finset (Fin 128))) (funext fun l => congrArg v (funext fun a => ?_))
  match a with | ⟨0, _⟩ => rfl | ⟨1, _⟩ => rfl | ⟨2, _⟩ => rfl

/-- A minimum over the lanes. -/
theorem minLane_apply (v : FVec Ideal S1920x14x252 .f32) (acc : BitVec 32) (h : S1920x14x252.Reduces [2] S1920x14)
    (hφ : FKind.Formats .f32) (hacc : acc = FKind.minimumf.neutral .f32 hφ) (r : Fin 1920) (b : Fin 14) :
    multiReduction .minimumf [2] S1920x14 v acc h hφ hacc (ix2 (n0 := 1920) (n1 := 14) r b)
      = (Finset.univ : Finset (Fin 252)).fold min (Ideal.ofBits .f32 acc) fun l => v (ix3 (n0 := 1920) (n1 := 14) (n2 := 252) r b l) := by
  have e : multiReduction .minimumf [2] S1920x14 v acc h hφ hacc (ix2 (n0 := 1920) (n1 := 14) r b)
      = (Finset.univ : Finset (Fin 252)).fold min (Ideal.ofBits .f32 acc) (v ∘ h.lift (ix2 (n0 := 1920) (n1 := 14) r b)) := by
    rw [multiReduction_minimumf_eq_fold]
    exact h.fold_filter_drop_single _ _ v _
  refine e.trans ?_
  refine congrArg (fun f => Finset.fold min (Ideal.ofBits .f32 acc) f (Finset.univ : Finset (Fin 252))) (funext fun l => congrArg v (funext fun a => ?_))
  match a with | ⟨0, _⟩ => rfl | ⟨1, _⟩ => rfl | ⟨2, _⟩ => rfl

/-! ## The scale -/

/-- Group `b`'s largest magnitude over 57344, row by row. -/
def quot (T : FVec Ideal S1920x1792 .f32) : FVec Ideal S1920x14 .f32 :=
  mulf (multiReduction .maximumf [2] S1920x14 (absf (shapeCast S1920x14x128 T shapeCasts_S1920x1792_S1920x14x128)) 0xFF800000#32
    reduces_S1920x14x128_S1920x14 (.inl rfl) rfl) (broadcast S1920x14 (Scalar.ofBits .f32 0x37924925#32))

/-- An array times a constant, read at an index. -/
theorem mul_word (M : FVec Ideal S1920x14 .f32) (c : BitVec 32) (i : S1920x14.Idx) :
    mulf M (broadcast S1920x14 (Scalar.ofBits .f32 c)) i = M i * Ideal.ofBits .f32 c := rfl

theorem quot_apply (T : FVec Ideal S1920x1792 .f32) (r : Fin 1920) (b : Fin 14) :
    quot T (ix2 (n0 := 1920) (n1 := 14) r b) = amax (group (fun d => T (ix2 (n0 := 1920) (n1 := 1792) r d)) b) := by
  have h2 : (fun l => (absf (shapeCast S1920x14x128 T shapeCasts_S1920x1792_S1920x14x128)) (ix3 (n0 := 1920) (n1 := 14) (n2 := 128) r b l))
      = fun l => max (group (fun d => T (ix2 (n0 := 1920) (n1 := 1792) r d)) b l) (-(group (fun d => T (ix2 (n0 := 1920) (n1 := 1792) r d)) b l)) :=
    funext fun l => by rw [← groups_apply T r b l]; rfl
  have h1 := maxLane_apply (absf (shapeCast S1920x14x128 T shapeCasts_S1920x1792_S1920x14x128)) 0xFF800000#32
    reduces_S1920x14x128_S1920x14 (.inl rfl) rfl r b
  rw [h2] at h1
  unfold quot amax
  rw [← h1]
  exact mul_word _ _ _

/-- The powers of two tried. -/
def powers : FVec Ideal S1x1x252 .f32 :=
  exp2 (subf (sitofp .f32 (iota .tc S1x1x252 32 [2] iota_S1x1x252_d2_w32)) (broadcast S1x1x252 (Scalar.ofBits .f32 0x42FA0000#32)))

theorem powers_apply (l : Fin 252) : powers (ix3 (n0 := 1) (n1 := 1) (n2 := 252) 0 0 l) = Cert.Scale.power l.val := by
  unfold powers
  have e : (iota .tc S1x1x252 32 [2] iota_S1x1x252_d2_w32) (ix3 (n0 := 1) (n1 := 1) (n2 := 252) 0 0 l) = BitVec.ofNat 32 l.val :=
    iota_single_apply _ _ _ _ _ _
  unfold Cert.Scale.power
  rw [← e]
  rfl

/-- The least of the powers above. -/
def leastV (a : FVec Ideal S1920x14 .f32) : FVec Ideal S1920x14 .f32 :=
  multiReduction .minimumf [2] S1920x14
    (select (cmpf .ogt (broadcastTo S1920x14x252 powers broadcasts_S1x1x252_S1920x14x252)
        (broadcastTo S1920x14x252 (shapeCast S1920x14x1 a shapeCasts_S1920x14_S1920x14x1) broadcasts_S1920x14x1_S1920x14x252))
      (broadcastTo S1920x14x252 (shapeCast S1x1x252 powers shapeCasts_S1x1x252_S1x1x252) broadcasts_S1x1x252_S1920x14x252)
      (broadcast S1920x14x252 (Scalar.ofBits .f32 0x7E800000#32)))
    0x7F800000#32 reduces_S1920x14x252_S1920x14 (.inl rfl) rfl

theorem leastV_apply (a : FVec Ideal S1920x14 .f32) (r : Fin 1920) (b : Fin 14) :
    leastV a (ix2 (n0 := 1920) (n1 := 14) r b) = Cert.Scale.least (a (ix2 (n0 := 1920) (n1 := 14) r b)) := by
  unfold leastV Cert.Scale.least
  refine (minLane_apply _ 0x7F800000#32 reduces_S1920x14x252_S1920x14 (.inl rfl) rfl r b).trans ?_
  refine congrArg (fun f => Finset.fold min (Ideal.ofBits .f32 0x7F800000#32) f Finset.univ) (funext fun l => ?_)
  rw [shapeCast_self]
  show Scalar.select (Ideal.cmp .ogt (broadcastTo S1920x14x252 powers _ _) (broadcastTo S1920x14x252 _ _ _)) (broadcastTo S1920x14x252 powers _ _) _ = _
  rw [line_apply, lane_apply, addLane_apply, powers_apply]
  rfl

/-- The reference's scale. -/
def scaleR (a : FVec Ideal S1920x14 .f32) : FVec Ideal S1920x14 .f32 :=
  select (ori (cmpf .olt a (broadcast S1920x14 (Scalar.ofBits .f32 0x00800000#32))) (cmpf .oge a (broadcast S1920x14 (Scalar.ofBits .f32 0x7E800000#32))))
    (broadcast S1920x14 (Scalar.ofBits .f32 0x3F800000#32)) (leastV a)

theorem scaleR_apply (a : FVec Ideal S1920x14 .f32) (r : Fin 1920) (b : Fin 14) :
    scaleR a (ix2 (n0 := 1920) (n1 := 14) r b) = Cert.Scale.refScale (a (ix2 (n0 := 1920) (n1 := 14) r b)) := by
  unfold scaleR Cert.Scale.refScale
  rw [← leastV_apply]
  generalize leastV a = z
  rfl

/-- The reference's scales are the row functions of its total. -/
theorem scales_apply (v10 v34 : FVec Ideal S1920x1792 .f32) (v35 : Vec Ideal S1920x1 .f32) (v47 : Vec Ideal S1920x1792 .bf16) (r : Fin 1920) (b : Fin 14) :
    k0_pay10 (F := Ideal) v10 v34 v35 v47 (ix2 (n0 := 1920) (n1 := 14) r b)
      = Cert.Scale.refScale (amax (group (fun d => k0_pay7 (F := Ideal) v10 v34 v35 v47 (ix2 (n0 := 1920) (n1 := 1792) r d)) b)) := by
  rw [← quot_apply, ← scaleR_apply]
  unfold k0_pay10 k0_pay9
  generalize k0_pay7 (F := Ideal) v10 v34 v35 v47 = T
  rfl

/-- In the ideal arithmetic the cast to the code's format keeps the value. -/
theorem trunc_at (A : FVec Ideal S1920x1792 .f32) (i : S1920x1792.Idx) : truncf .fp8e5m2 A bitsLt_fp8e5m2_f32 i = A i := rfl

/-- The reference's codes from the grouped total and the scales. -/
theorem codes_apply (V : FVec Ideal S1920x14x128 .f32) (s : FVec Ideal S1920x14 .f32) (r : Fin 1920) (d : Fin 1792) :
    k0_pay1 (F := Ideal) V s (ix2 (n0 := 1920) (n1 := 1792) r d)
      = min (Ideal.ofBits .f32 0x47600000#32) (max (Ideal.ofBits .f32 0xC7600000#32)
          (V (ix3 (n0 := 1920) (n1 := 14) (n2 := 128) r ⟨d.val / 128, by omega⟩ ⟨d.val % 128, Nat.mod_lt _ (by omega)⟩)
            * Ideal.div (Ideal.ofBits .f32 0x3F800000#32) (s (ix2 (n0 := 1920) (n1 := 14) r ⟨d.val / 128, by omega⟩)))) := by
  unfold k0_pay1
  refine (trunc_at _ _).trans ((flat_apply _ r d).trans ?_)
  show min _ (max _ (V _ * broadcastTo S1920x14x128 _ _ _)) = _
  rw [lane_apply, addLane_apply]
  rfl

section Results
variable (x0 : Vec Ideal S1920x1792 .fp8e4m3) (x1 x2 : Vec Ideal S1920x1 .f32) (x3 : Vec Ideal S1x1792 .f32)
  (x4 : Vec Ideal S1792x2304 .fp8e4m3) (x5 : Vec Ideal S1x2304 .f32)
  (x6 : Vec Ideal S1920x2304 .bf16) (x7 : Vec Ideal S1920x1792 .bf16)

/-- The scale of group `b` of token `r`, as the reference has it. -/
theorem pay10_apply (r : Fin 1920) (b : Fin 14) :
    k0_pay10 (F := Ideal) (k0_pay2 (F := Ideal) x0 x1 x2) (k0_pay6 (F := Ideal) x4 x5 x6 x3) x2 x7 (ix2 (n0 := 1920) (n1 := 14) r b)
      = Cert.Scale.refScale (amax (group (tot x0 x1 x2 x3 x4 x5 x6 x7 r) b)) := by
  rw [scales_apply, total_eq]
  refine congrArg (fun f => Cert.Scale.refScale (amax (group f b))) (funext fun d => ?_)
  rfl

/-- dx_scale. -/
theorem dxs_eq : k0_pay10 (F := Ideal) (k0_pay2 (F := Ideal) x0 x1 x2) (k0_pay6 (F := Ideal) x4 x5 x6 x3) x2 x7
    = dxsA x0 x1 x2 x3 x4 x5 x6 x7 := by
  funext i
  obtain ⟨r, b, rfl⟩ : ∃ (r : Fin 1920) (b : Fin 14), i = ix2 (n0 := 1920) (n1 := 14) r b := ⟨i 0, i 1, eq_ix2 i⟩
  rw [pay10_apply, ← Cert.Scale.scale_eq]
  unfold dxsA scl
  exact congrArg (fun f => Cert.Scale.scale (amax (group f b))) rfl

/-- dx_codes. -/
theorem dxc_eq : k0_pay1 (F := Ideal) (k0_pay9 (F := Ideal) (k0_pay2 (F := Ideal) x0 x1 x2) (k0_pay6 (F := Ideal) x4 x5 x6 x3) x2 x7)
      (k0_pay10 (F := Ideal) (k0_pay2 (F := Ideal) x0 x1 x2) (k0_pay6 (F := Ideal) x4 x5 x6 x3) x2 x7)
    = dxcA x0 x1 x2 x3 x4 x5 x6 x7 := by
  funext i
  obtain ⟨r, d, rfl⟩ : ∃ (r : Fin 1920) (d : Fin 1792), i = ix2 (n0 := 1920) (n1 := 1792) r d := ⟨i 0, i 1, eq_ix2 i⟩
  rw [codes_apply, pay10_apply, ← Cert.Scale.inv_eq]
  unfold k0_pay9
  rw [total_eq, groups_apply]
  unfold dxcA code
  exact congrArg (fun f => min (Ideal.ofBits .f32 0x47600000#32) (max (Ideal.ofBits .f32 0xC7600000#32)
    (group f ⟨d.val / 128, by omega⟩ ⟨d.val % 128, Nat.mod_lt _ (by omega)⟩
      * Cert.Scale.inv (amax (group f ⟨d.val / 128, by omega⟩))))) rfl

end Results

end Cert.DxRefIdeal.Value

end
-- ==== Proof.K.DxRefRead.lean ====
/-
  THE REFERENCE'S POINT. It reads the eight arrays whole, so what it leaves for each result is the whole-array function
  (`Cert.Rows`) of the arguments.
-/
module

public import proofs.«01_k».proof.Proof.K.DxRefQuant

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DxRefIdeal.Value

open Cert.DxRefIdeal Cert.DxRefIdeal.Gen Cert.Rows

variable (m : (ℓ : Loc nD τ sig) → Buf (Elt Ideal) ℓ) (ρ : Dev nD → PrngReg)

/-! ## The arguments as the call reads them -/

/-- The activation codes, one row per token. -/
abbrev b0 (c : Dev nD) : FVec Ideal S1920x1792 .fp8e4m3 := shapeCast S1920x1792 (m ((c : Thread nD τ).loc main_arg0)) shapeCasts_S3x640x1792_S1920x1792
/-- The activation scales, a column. -/
abbrev b1 (c : Dev nD) : FVec Ideal S1920x1 .f32 := shapeCast S1920x1 (m ((c : Thread nD τ).loc main_arg1)) shapeCasts_S3x640_S1920x1
/-- The reciprocal root mean squares, a column. -/
abbrev b2 (c : Dev nD) : FVec Ideal S1920x1 .f32 := shapeCast S1920x1 (m ((c : Thread nD τ).loc main_arg2)) shapeCasts_S3x640_S1920x1
/-- Gamma, a row. -/
abbrev b3 (c : Dev nD) : FVec Ideal S1x1792 .f32 := shapeCast S1x1792 (m ((c : Thread nD τ).loc main_arg3)) shapeCasts_S1792_S1x1792
/-- The weight codes. -/
abbrev b4 (c : Dev nD) : FVec Ideal S1792x2304 .fp8e4m3 := m ((c : Thread nD τ).loc main_arg4)
/-- The weight scales, a row. -/
abbrev b5 (c : Dev nD) : FVec Ideal S1x2304 .f32 := shapeCast S1x2304 (m ((c : Thread nD τ).loc main_arg5)) shapeCasts_S2304_S1x2304
/-- The upstream gradient, one row per token. -/
abbrev b6 (c : Dev nD) : FVec Ideal S1920x2304 .bf16 := shapeCast S1920x2304 (m ((c : Thread nD τ).loc main_arg6)) shapeCasts_S3x640x2304_S1920x2304
/-- The residual gradient, one row per token. -/
abbrev b7 (c : Dev nD) : FVec Ideal S1920x1792 .bf16 := shapeCast S1920x1792 (m ((c : Thread nD τ).loc main_arg7)) shapeCasts_S3x640x1792_S1920x1792

/-! Each window's array when the point starts. -/

theorem V_b0 (c : Dev nD) : V m c main_v0 = b0 m c := by
  unfold V
  after_results <;> rfl
theorem V_b1 (c : Dev nD) : V m c main_v1 = b1 m c := by
  unfold V
  after_results <;> rfl
theorem V_b2 (c : Dev nD) : V m c main_v2 = b2 m c := by
  unfold V
  after_results <;> rfl
theorem V_b3 (c : Dev nD) : V m c main_v3 = b3 m c := by
  unfold V
  after_results <;> rfl
theorem V_b4 (c : Dev nD) : V m c main_arg4 = b4 m c := V_main_arg4 m c
theorem V_b5 (c : Dev nD) : V m c main_v4 = b5 m c := by
  unfold V
  after_results <;> rfl
theorem V_b6 (c : Dev nD) : V m c main_v5 = b6 m c := by
  unfold V
  after_results <;> rfl
theorem V_b7 (c : Dev nD) : V m c main_v6 = b7 m c := by
  unfold V
  after_results <;> rfl

/-! Each window's block is its whole array. -/

theorem emb0 (t : Fin cfg0.N) (j : S1920x1792.Idx) : ((cfg0.win 0).blk t).view.emb j = j := by
  funext a
  apply Fin.ext
  match a with
  | ⟨0, _⟩ => show 0 * 1920 + 1 * (j 0).val = (j 0).val; omega
  | ⟨1, _⟩ => show 0 * 1792 + 1 * (j 1).val = (j 1).val; omega
theorem emb1 (t : Fin cfg0.N) (j : S1920x1.Idx) : ((cfg0.win 1).blk t).view.emb j = j := by
  funext a
  apply Fin.ext
  match a with
  | ⟨0, _⟩ => show 0 * 1920 + 1 * (j 0).val = (j 0).val; omega
  | ⟨1, _⟩ => show 0 * 1 + 1 * (j 1).val = (j 1).val; omega
theorem emb2 (t : Fin cfg0.N) (j : S1920x1.Idx) : ((cfg0.win 2).blk t).view.emb j = j := by
  funext a
  apply Fin.ext
  match a with
  | ⟨0, _⟩ => show 0 * 1920 + 1 * (j 0).val = (j 0).val; omega
  | ⟨1, _⟩ => show 0 * 1 + 1 * (j 1).val = (j 1).val; omega
theorem emb3 (t : Fin cfg0.N) (j : S1x1792.Idx) : ((cfg0.win 3).blk t).view.emb j = j := by
  funext a
  apply Fin.ext
  match a with
  | ⟨0, _⟩ => show 0 * 1 + 1 * (j 0).val = (j 0).val; omega
  | ⟨1, _⟩ => show 0 * 1792 + 1 * (j 1).val = (j 1).val; omega
theorem emb4 (t : Fin cfg0.N) (j : S1792x2304.Idx) : ((cfg0.win 4).blk t).view.emb j = j := by
  funext a
  apply Fin.ext
  match a with
  | ⟨0, _⟩ => show 0 * 1792 + 1 * (j 0).val = (j 0).val; omega
  | ⟨1, _⟩ => show 0 * 2304 + 1 * (j 1).val = (j 1).val; omega
theorem emb5 (t : Fin cfg0.N) (j : S1x2304.Idx) : ((cfg0.win 5).blk t).view.emb j = j := by
  funext a
  apply Fin.ext
  match a with
  | ⟨0, _⟩ => show 0 * 1 + 1 * (j 0).val = (j 0).val; omega
  | ⟨1, _⟩ => show 0 * 2304 + 1 * (j 1).val = (j 1).val; omega
theorem emb6 (t : Fin cfg0.N) (j : S1920x2304.Idx) : ((cfg0.win 6).blk t).view.emb j = j := by
  funext a
  apply Fin.ext
  match a with
  | ⟨0, _⟩ => show 0 * 1920 + 1 * (j 0).val = (j 0).val; omega
  | ⟨1, _⟩ => show 0 * 2304 + 1 * (j 1).val = (j 1).val; omega
theorem emb7 (t : Fin cfg0.N) (j : S1920x1792.Idx) : ((cfg0.win 7).blk t).view.emb j = j := by
  funext a
  apply Fin.ext
  match a with
  | ⟨0, _⟩ => show 0 * 1920 + 1 * (j 0).val = (j 0).val; omega
  | ⟨1, _⟩ => show 0 * 1792 + 1 * (j 1).val = (j 1).val; omega
theorem emb8 (t : Fin cfg0.N) (j : S1920x1792.Idx) : ((cfg0.win 8).blk t).view.emb j = j := by
  funext a
  apply Fin.ext
  match a with
  | ⟨0, _⟩ => show 0 * 1920 + 1 * (j 0).val = (j 0).val; omega
  | ⟨1, _⟩ => show 0 * 1792 + 1 * (j 1).val = (j 1).val; omega
theorem emb9 (t : Fin cfg0.N) (j : S1x1792.Idx) : ((cfg0.win 9).blk t).view.emb j = j := by
  funext a
  apply Fin.ext
  match a with
  | ⟨0, _⟩ => show 0 * 1 + 1 * (j 0).val = (j 0).val; omega
  | ⟨1, _⟩ => show 0 * 1792 + 1 * (j 1).val = (j 1).val; omega
theorem emb10 (t : Fin cfg0.N) (j : S1920x1792.Idx) : ((cfg0.win 10).blk t).view.emb j = j := by
  funext a
  apply Fin.ext
  match a with
  | ⟨0, _⟩ => show 0 * 1920 + 1 * (j 0).val = (j 0).val; omega
  | ⟨1, _⟩ => show 0 * 1792 + 1 * (j 1).val = (j 1).val; omega
theorem emb11 (t : Fin cfg0.N) (j : S1920x14.Idx) : ((cfg0.win 11).blk t).view.emb j = j := by
  funext a
  apply Fin.ext
  match a with
  | ⟨0, _⟩ => show 0 * 1920 + 1 * (j 0).val = (j 0).val; omega
  | ⟨1, _⟩ => show 0 * 14 + 1 * (j 1).val = (j 1).val; omega
theorem emb12 (t : Fin cfg0.N) (j : S1920x1792.Idx) : ((cfg0.win 12).blk t).view.emb j = j := by
  funext a
  apply Fin.ext
  match a with
  | ⟨0, _⟩ => show 0 * 1920 + 1 * (j 0).val = (j 0).val; omega
  | ⟨1, _⟩ => show 0 * 1792 + 1 * (j 1).val = (j 1).val; omega

theorem iblk0_eq (c : Dev nD) (t : Fin cfg0.N) : (iblk m c 0 t : FVec Ideal S1920x1792 .fp8e4m3) = b0 m c := by
  unfold iblk
  funext j
  rw [View.read_apply]
  show V m c main_v0 _ = b0 m c _
  rw [V_b0]
  exact congrArg (b0 m c) (emb0 t j)
theorem iblk1_eq (c : Dev nD) (t : Fin cfg0.N) : (iblk m c 1 t : FVec Ideal S1920x1 .f32) = b1 m c := by
  unfold iblk
  funext j
  rw [View.read_apply]
  show V m c main_v1 _ = b1 m c _
  rw [V_b1]
  exact congrArg (b1 m c) (emb1 t j)
theorem iblk2_eq (c : Dev nD) (t : Fin cfg0.N) : (iblk m c 2 t : FVec Ideal S1920x1 .f32) = b2 m c := by
  unfold iblk
  funext j
  rw [View.read_apply]
  show V m c main_v2 _ = b2 m c _
  rw [V_b2]
  exact congrArg (b2 m c) (emb2 t j)
theorem iblk3_eq (c : Dev nD) (t : Fin cfg0.N) : (iblk m c 3 t : FVec Ideal S1x1792 .f32) = b3 m c := by
  unfold iblk
  funext j
  rw [View.read_apply]
  show V m c main_v3 _ = b3 m c _
  rw [V_b3]
  exact congrArg (b3 m c) (emb3 t j)
theorem iblk4_eq (c : Dev nD) (t : Fin cfg0.N) : (iblk m c 4 t : FVec Ideal S1792x2304 .fp8e4m3) = b4 m c := by
  unfold iblk
  funext j
  rw [View.read_apply]
  show V m c main_arg4 _ = b4 m c _
  rw [V_b4]
  exact congrArg (b4 m c) (emb4 t j)
theorem iblk5_eq (c : Dev nD) (t : Fin cfg0.N) : (iblk m c 5 t : FVec Ideal S1x2304 .f32) = b5 m c := by
  unfold iblk
  funext j
  rw [View.read_apply]
  show V m c main_v4 _ = b5 m c _
  rw [V_b5]
  exact congrArg (b5 m c) (emb5 t j)
theorem iblk6_eq (c : Dev nD) (t : Fin cfg0.N) : (iblk m c 6 t : FVec Ideal S1920x2304 .bf16) = b6 m c := by
  unfold iblk
  funext j
  rw [View.read_apply]
  show V m c main_v5 _ = b6 m c _
  rw [V_b6]
  exact congrArg (b6 m c) (emb6 t j)
theorem iblk7_eq (c : Dev nD) (t : Fin cfg0.N) : (iblk m c 7 t : FVec Ideal S1920x1792 .bf16) = b7 m c := by
  unfold iblk
  funext j
  rw [View.read_apply]
  show V m c main_v6 _ = b7 m c _
  rw [V_b7]
  exact congrArg (b7 m c) (emb7 t j)

/-! ## What the point leaves -/

theorem hz : (![0, 0] : Fin 2 → Nat) = fun _ => 0 := funext fun a => by fin_cases a <;> rfl

section Outs
variable (x0 : Vec Ideal S1920x1792 .fp8e4m3) (x1 x2 : Vec Ideal S1920x1 .f32) (x3 : Vec Ideal S1x1792 .f32)
  (x4 : Vec Ideal S1792x2304 .fp8e4m3) (x5 : Vec Ideal S1x2304 .f32)
  (x6 : Vec Ideal S1920x2304 .bf16) (x7 : Vec Ideal S1920x1792 .bf16)

theorem gradV : k0_pay11 (F := Ideal) x0 x1 x2 x3 x4 x5 x6 x7 = k0_pay2 (F := Ideal) x0 x1 x2 := by
  unfold k0_pay11
  rw [View.ld_unit_zero (S := S1920x1792) hz, View.ld_unit_zero (S := S1920x1) hz, View.ld_unit_zero (S := S1920x1) hz]

theorem normV : k0_pay12 (F := Ideal) x0 x1 x2 x3 x4 x5 x6 x7 = k0_pay6 (F := Ideal) x4 x5 x6 x3 := by
  unfold k0_pay12
  rw [View.ld_unit_zero (S := S1792x2304) hz, View.ld_unit_zero (S := S1x2304) hz, View.ld_unit_zero (S := S1920x2304) hz, View.ld_unit_zero (S := S1x1792) hz]

theorem scaleV : k0_pay13 (F := Ideal) x0 x1 x2 x3 x4 x5 x6 x7 = dxsA x0 x1 x2 x3 x4 x5 x6 x7 := by
  unfold k0_pay13
  rw [gradV, normV, View.ld_unit_zero (S := S1920x1) hz, View.ld_unit_zero (S := S1920x1792) hz]
  exact dxs_eq x0 x1 x2 x3 x4 x5 x6 x7

theorem out8_eq : out0_8 (F := Ideal) x0 x1 x2 x3 x4 x5 x6 x7 = dxA x0 x1 x2 x3 x4 x5 x6 x7 := by
  unfold out0_8
  rw [View.canon_unit_zero hz, gradV, normV, View.ld_unit_zero (S := S1920x1) hz, View.ld_unit_zero (S := S1920x1792) hz]
  exact total_eq x0 x1 x2 x3 x4 x5 x6 x7

theorem out9_eq : out0_9 (F := Ideal) x0 x1 x2 x3 x4 x5 x6 x7 = dgA x0 x1 x2 x4 x5 x6 x7 := by
  unfold out0_9
  rw [View.canon_unit_zero hz, View.ld_unit_zero (S := S1920x1792) hz, View.ld_unit_zero (S := S1920x1) hz, View.ld_unit_zero (S := S1920x1) hz,
    View.ld_unit_zero (S := S1792x2304) hz, View.ld_unit_zero (S := S1x2304) hz, View.ld_unit_zero (S := S1920x2304) hz]
  exact dgamma_eq x0 x1 x2 x4 x5 x6 x7

theorem out10_eq : out0_10 (F := Ideal) x0 x1 x2 x3 x4 x5 x6 x7 = dxcA x0 x1 x2 x3 x4 x5 x6 x7 := by
  unfold out0_10 k0_pay13
  rw [View.canon_unit_zero hz, gradV, normV, View.ld_unit_zero (S := S1920x1) hz, View.ld_unit_zero (S := S1920x1792) hz]
  exact dxc_eq x0 x1 x2 x3 x4 x5 x6 x7

theorem out11_eq : out0_11 (F := Ideal) x0 x1 x2 x3 x4 x5 x6 x7 = dxsA x0 x1 x2 x3 x4 x5 x6 x7 := by
  unfold out0_11
  rw [View.canon_unit_zero hz, scaleV]

theorem out12_eq : out0_12 (F := Ideal) x0 x1 x2 x3 x4 x5 x6 x7 = xhA x0 x1 x2 x3 x6 x7 := by
  unfold out0_12
  rw [View.canon_unit_zero hz, View.ld_unit_zero (S := S1920x1792) hz, View.ld_unit_zero (S := S1920x1) hz, View.ld_unit_zero (S := S1920x1) hz,
    View.ld_unit_zero (S := S1x1792) hz]
  exact xhat_eq x0 x1 x2 x3 x6 x7

end Outs

end Cert.DxRefIdeal.Value

end
-- ==== Proof.K.DxRefRun.lean ====
/-
  THE REFERENCE'S RUN. Its one point writes the five results whole, so each result ends as the whole-array function
  (`Cert.Rows`) of the arguments.
-/
module

public import proofs.«01_k».proof.Proof.K.DxRefRead

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.DxRefIdeal.Value

open Cert.DxRefIdeal Cert.DxRefIdeal.Gen Cert.Rows

variable (m : (ℓ : Loc nD τ sig) → Buf (Elt Ideal) ℓ) (ρ : Dev nD → PrngReg)

/-! ## What each window takes and where it goes -/

/-- Window 8 takes the whole of the array the point leaves. -/
theorem cut8 (t : Fin cfg0.N) (G : FVec Ideal S1920x1792 .bf16) :
    (cfg0.win 8).cut (grid0.coords t) G = ((cfg0.win 8).blk t).view.read (Elt Ideal) G := by
  funext j
  rw [View.read_apply]
  exact (congrArg G (emb8 t j)).symm

/-- Its one block covers the array. -/
theorem cover8 (t : Fin cfg0.N) (i : S1920x1792.Idx) : i ∈ ((cfg0.win 8).blk t).view.set := by
  have h0 : (i 0 : Nat) < 1920 := (i 0).isLt
  have h1 : (i 1 : Nat) < 1792 := (i 1).isLt
  show i ∈ ((View.whole main_v7_0).slice (win0_8.rect t)).set
  rw [View.set_slice_whole, Rect.mem_set_unit]
  intro a
  match a with
  | ⟨0, _⟩ => show 0 * 1920 ≤ (i 0 : Nat) ∧ (i 0 : Nat) < 0 * 1920 + 1920; omega
  | ⟨1, _⟩ => show 0 * 1792 ≤ (i 1 : Nat) ∧ (i 1 : Nat) < 0 * 1792 + 1792; omega

theorem left8 (c : Dev nD) (t : Fin cfg0.N) :
    out0_8 (F := Ideal) (iblk m c 0 t) (iblk m c 1 t) (iblk m c 2 t) (iblk m c 3 t) (iblk m c 4 t) (iblk m c 5 t) (iblk m c 6 t) (iblk m c 7 t)
      = dxA (b0 m c) (b1 m c) (b2 m c) (b3 m c) (b4 m c) (b5 m c) (b6 m c) (b7 m c) := by
  refine (out8_eq _ _ _ _ _ _ _ _).trans ?_
  rw [iblk0_eq, iblk1_eq, iblk2_eq, iblk3_eq, iblk4_eq, iblk5_eq, iblk6_eq, iblk7_eq]

theorem written8 (c : Dev nD) (t : Fin cfg0.N) :
    (dats m 0 c).flushed 8 t = ((cfg0.win 8).blk t).view.read (Elt Ideal) (dxA (b0 m c) (b1 m c) (b2 m c) (b3 m c) (b4 m c) (b5 m c) (b6 m c) (b7 m c)) :=
  (flushed8 m c t).trans ((congrArg ((cfg0.win 8).cut (grid0.coords t)) (left8 m c t)).trans (cut8 t _))

theorem final8' (c : Dev nD) : (dats m 0 c).arrAt 8 cfg0.N = dxA (b0 m c) (b1 m c) (b2 m c) (b3 m c) (b4 m c) (b5 m c) (b6 m c) (b7 m c) :=
  (dats m 0 c).arrAt_eq_of_cover 8 _ (fun t _ => written8 m c t) fun i => ⟨⟨0, by decide⟩, by decide, cover8 _ i⟩

/-- Window 9 takes the whole of the array the point leaves. -/
theorem cut9 (t : Fin cfg0.N) (G : FVec Ideal S1x1792 .f32) :
    (cfg0.win 9).cut (grid0.coords t) G = ((cfg0.win 9).blk t).view.read (Elt Ideal) G := by
  funext j
  rw [View.read_apply]
  exact (congrArg G (emb9 t j)).symm

/-- Its one block covers the array. -/
theorem cover9 (t : Fin cfg0.N) (i : S1x1792.Idx) : i ∈ ((cfg0.win 9).blk t).view.set := by
  have h0 : (i 0 : Nat) < 1 := (i 0).isLt
  have h1 : (i 1 : Nat) < 1792 := (i 1).isLt
  show i ∈ ((View.whole main_v7_1).slice (win0_9.rect t)).set
  rw [View.set_slice_whole, Rect.mem_set_unit]
  intro a
  match a with
  | ⟨0, _⟩ => show 0 * 1 ≤ (i 0 : Nat) ∧ (i 0 : Nat) < 0 * 1 + 1; omega
  | ⟨1, _⟩ => show 0 * 1792 ≤ (i 1 : Nat) ∧ (i 1 : Nat) < 0 * 1792 + 1792; omega

theorem left9 (c : Dev nD) (t : Fin cfg0.N) :
    out0_9 (F := Ideal) (iblk m c 0 t) (iblk m c 1 t) (iblk m c 2 t) (iblk m c 3 t) (iblk m c 4 t) (iblk m c 5 t) (iblk m c 6 t) (iblk m c 7 t)
      = dgA (b0 m c) (b1 m c) (b2 m c) (b4 m c) (b5 m c) (b6 m c) (b7 m c) := by
  refine (out9_eq _ _ _ _ _ _ _ _).trans ?_
  rw [iblk0_eq, iblk1_eq, iblk2_eq, iblk4_eq, iblk5_eq, iblk6_eq, iblk7_eq]

theorem written9 (c : Dev nD) (t : Fin cfg0.N) :
    (dats m 0 c).flushed 9 t = ((cfg0.win 9).blk t).view.read (Elt Ideal) (dgA (b0 m c) (b1 m c) (b2 m c) (b4 m c) (b5 m c) (b6 m c) (b7 m c)) :=
  (flushed9 m c t).trans ((congrArg ((cfg0.win 9).cut (grid0.coords t)) (left9 m c t)).trans (cut9 t _))

theorem final9' (c : Dev nD) : (dats m 0 c).arrAt 9 cfg0.N = dgA (b0 m c) (b1 m c) (b2 m c) (b4 m c) (b5 m c) (b6 m c) (b7 m c) :=
  (dats m 0 c).arrAt_eq_of_cover 9 _ (fun t _ => written9 m c t) fun i => ⟨⟨0, by decide⟩, by decide, cover9 _ i⟩

/-- Window 10 takes the whole of the array the point leaves. -/
theorem cut10 (t : Fin cfg0.N) (G : FVec Ideal S1920x1792 .fp8e5m2) :
    (cfg0.win 10).cut (grid0.coords t) G = ((cfg0.win 10).blk t).view.read (Elt Ideal) G := by
  funext j
  rw [View.read_apply]
  exact (congrArg G (emb10 t j)).symm

/-- Its one block covers the array. -/
theorem cover10 (t : Fin cfg0.N) (i : S1920x1792.Idx) : i ∈ ((cfg0.win 10).blk t).view.set := by
  have h0 : (i 0 : Nat) < 1920 := (i 0).isLt
  have h1 : (i 1 : Nat) < 1792 := (i 1).isLt
  show i ∈ ((View.whole main_v7_2).slice (win0_10.rect t)).set
  rw [View.set_slice_whole, Rect.mem_set_unit]
  intro a
  match a with
  | ⟨0, _⟩ => show 0 * 1920 ≤ (i 0 : Nat) ∧ (i 0 : Nat) < 0 * 1920 + 1920; omega
  | ⟨1, _⟩ => show 0 * 1792 ≤ (i 1 : Nat) ∧ (i 1 : Nat) < 0 * 1792 + 1792; omega

theorem left10 (c : Dev nD) (t : Fin cfg0.N) :
    out0_10 (F := Ideal) (iblk m c 0 t) (iblk m c 1 t) (iblk m c 2 t) (iblk m c 3 t) (iblk m c 4 t) (iblk m c 5 t) (iblk m c 6 t) (iblk m c 7 t)
      = dxcA (b0 m c) (b1 m c) (b2 m c) (b3 m c) (b4 m c) (b5 m c) (b6 m c) (b7 m c) := by
  refine (out10_eq _ _ _ _ _ _ _ _).trans ?_
  rw [iblk0_eq, iblk1_eq, iblk2_eq, iblk3_eq, iblk4_eq, iblk5_eq, iblk6_eq, iblk7_eq]

theorem written10 (c : Dev nD) (t : Fin cfg0.N) :
    (dats m 0 c).flushed 10 t = ((cfg0.win 10).blk t).view.read (Elt Ideal) (dxcA (b0 m c) (b1 m c) (b2 m c) (b3 m c) (b4 m c) (b5 m c) (b6 m c) (b7 m c)) :=
  (flushed10 m c t).trans ((congrArg ((cfg0.win 10).cut (grid0.coords t)) (left10 m c t)).trans (cut10 t _))

theorem final10' (c : Dev nD) : (dats m 0 c).arrAt 10 cfg0.N = dxcA (b0 m c) (b1 m c) (b2 m c) (b3 m c) (b4 m c) (b5 m c) (b6 m c) (b7 m c) :=
  (dats m 0 c).arrAt_eq_of_cover 10 _ (fun t _ => written10 m c t) fun i => ⟨⟨0, by decide⟩, by decide, cover10 _ i⟩

/-- Window 11 takes the whole of the array the point leaves. -/
theorem cut11 (t : Fin cfg0.N) (G : FVec Ideal S1920x14 .f32) :
    (cfg0.win 11).cut (grid0.coords t) G = ((cfg0.win 11).blk t).view.read (Elt Ideal) G := by
  funext j
  rw [View.read_apply]
  exact (congrArg G (emb11 t j)).symm

/-- Its one block covers the array. -/
theorem cover11 (t : Fin cfg0.N) (i : S1920x14.Idx) : i ∈ ((cfg0.win 11).blk t).view.set := by
  have h0 : (i 0 : Nat) < 1920 := (i 0).isLt
  have h1 : (i 1 : Nat) < 14 := (i 1).isLt
  show i ∈ ((View.whole main_v7_3).slice (win0_11.rect t)).set
  rw [View.set_slice_whole, Rect.mem_set_unit]
  intro a
  match a with
  | ⟨0, _⟩ => show 0 * 1920 ≤ (i 0 : Nat) ∧ (i 0 : Nat) < 0 * 1920 + 1920; omega
  | ⟨1, _⟩ => show 0 * 14 ≤ (i 1 : Nat) ∧ (i 1 : Nat) < 0 * 14 + 14; omega

theorem left11 (c : Dev nD) (t : Fin cfg0.N) :
    out0_11 (F := Ideal) (iblk m c 0 t) (iblk m c 1 t) (iblk m c 2 t) (iblk m c 3 t) (iblk m c 4 t) (iblk m c 5 t) (iblk m c 6 t) (iblk m c 7 t)
      = dxsA (b0 m c) (b1 m c) (b2 m c) (b3 m c) (b4 m c) (b5 m c) (b6 m c) (b7 m c) := by
  refine (out11_eq _ _ _ _ _ _ _ _).trans ?_
  rw [iblk0_eq, iblk1_eq, iblk2_eq, iblk3_eq, iblk4_eq, iblk5_eq, iblk6_eq, iblk7_eq]

theorem written11 (c : Dev nD) (t : Fin cfg0.N) :
    (dats m 0 c).flushed 11 t = ((cfg0.win 11).blk t).view.read (Elt Ideal) (dxsA (b0 m c) (b1 m c) (b2 m c) (b3 m c) (b4 m c) (b5 m c) (b6 m c) (b7 m c)) :=
  (flushed11 m c t).trans ((congrArg ((cfg0.win 11).cut (grid0.coords t)) (left11 m c t)).trans (cut11 t _))

theorem final11' (c : Dev nD) : (dats m 0 c).arrAt 11 cfg0.N = dxsA (b0 m c) (b1 m c) (b2 m c) (b3 m c) (b4 m c) (b5 m c) (b6 m c) (b7 m c) :=
  (dats m 0 c).arrAt_eq_of_cover 11 _ (fun t _ => written11 m c t) fun i => ⟨⟨0, by decide⟩, by decide, cover11 _ i⟩

/-- Window 12 takes the whole of the array the point leaves. -/
theorem cut12 (t : Fin cfg0.N) (G : FVec Ideal S1920x1792 .bf16) :
    (cfg0.win 12).cut (grid0.coords t) G = ((cfg0.win 12).blk t).view.read (Elt Ideal) G := by
  funext j
  rw [View.read_apply]
  exact (congrArg G (emb12 t j)).symm

/-- Its one block covers the array. -/
theorem cover12 (t : Fin cfg0.N) (i : S1920x1792.Idx) : i ∈ ((cfg0.win 12).blk t).view.set := by
  have h0 : (i 0 : Nat) < 1920 := (i 0).isLt
  have h1 : (i 1 : Nat) < 1792 := (i 1).isLt
  show i ∈ ((View.whole main_v7_4).slice (win0_12.rect t)).set
  rw [View.set_slice_whole, Rect.mem_set_unit]
  intro a
  match a with
  | ⟨0, _⟩ => show 0 * 1920 ≤ (i 0 : Nat) ∧ (i 0 : Nat) < 0 * 1920 + 1920; omega
  | ⟨1, _⟩ => show 0 * 1792 ≤ (i 1 : Nat) ∧ (i 1 : Nat) < 0 * 1792 + 1792; omega

theorem left12 (c : Dev nD) (t : Fin cfg0.N) :
    out0_12 (F := Ideal) (iblk m c 0 t) (iblk m c 1 t) (iblk m c 2 t) (iblk m c 3 t) (iblk m c 4 t) (iblk m c 5 t) (iblk m c 6 t) (iblk m c 7 t)
      = xhA (b0 m c) (b1 m c) (b2 m c) (b3 m c) (b6 m c) (b7 m c) := by
  refine (out12_eq _ _ _ _ _ _ _ _).trans ?_
  rw [iblk0_eq, iblk1_eq, iblk2_eq, iblk3_eq, iblk6_eq, iblk7_eq]

theorem written12 (c : Dev nD) (t : Fin cfg0.N) :
    (dats m 0 c).flushed 12 t = ((cfg0.win 12).blk t).view.read (Elt Ideal) (xhA (b0 m c) (b1 m c) (b2 m c) (b3 m c) (b6 m c) (b7 m c)) :=
  (flushed12 m c t).trans ((congrArg ((cfg0.win 12).cut (grid0.coords t)) (left12 m c t)).trans (cut12 t _))

theorem final12' (c : Dev nD) : (dats m 0 c).arrAt 12 cfg0.N = xhA (b0 m c) (b1 m c) (b2 m c) (b3 m c) (b6 m c) (b7 m c) :=
  (dats m 0 c).arrAt_eq_of_cover 12 _ (fun t _ => written12 m c t) fun i => ⟨⟨0, by decide⟩, by decide, cover12 _ i⟩

/-! ## The run -/

/-- The run, read: the five results are the whole-array functions of the arguments, which end unchanged. -/
theorem run : θ_run defs (onTc (τ := τ) (main (F := Ideal))) ⟨m, fun _ => 0, ρ⟩ fun r => ∀ c : Dev nD,
      r.2.mem ((c : Thread nD τ).loc main_v7_0) = dxA (b0 m c) (b1 m c) (b2 m c) (b3 m c) (b4 m c) (b5 m c) (b6 m c) (b7 m c)
      ∧ r.2.mem ((c : Thread nD τ).loc main_v7_1) = dgA (b0 m c) (b1 m c) (b2 m c) (b4 m c) (b5 m c) (b6 m c) (b7 m c)
      ∧ r.2.mem ((c : Thread nD τ).loc main_v7_2) = dxcA (b0 m c) (b1 m c) (b2 m c) (b3 m c) (b4 m c) (b5 m c) (b6 m c) (b7 m c)
      ∧ r.2.mem ((c : Thread nD τ).loc main_v7_3) = dxsA (b0 m c) (b1 m c) (b2 m c) (b3 m c) (b4 m c) (b5 m c) (b6 m c) (b7 m c)
      ∧ r.2.mem ((c : Thread nD τ).loc main_v7_4) = xhA (b0 m c) (b1 m c) (b2 m c) (b3 m c) (b6 m c) (b7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8' m c), (h c).2.1.trans (final9' m c), (h c).2.2.1.trans (final10' m c),
      (h c).2.2.2.1.trans (final11' m c), (h c).2.2.2.2.1.trans (final12' m c), (h c).2.2.2.2.2⟩)
    (run_blocks m ρ)

end Cert.DxRefIdeal.Value

end
-- ==== Proof.K.DxClaims.lean ====
/-
  THE dx CALL'S CLAIM: over the extended reals the kernel's five results (dx, dgamma, the codes and scales of dx, and x_hat)
  equal the reference's, entry by entry, for all arguments.
-/
module

public import proofs.«01_k».proof.Proof.K.DxRefRun

@[expose] public section

set_option maxRecDepth 16384

noncomputable section

open Idealize.ShloMosaic Idealize.ShloMosaic.TcCoe Idealize.SL.Sem

namespace Cert.DxIdeal.Value

open Cert.DxIdeal Cert.DxIdeal.Gen Cert.Rows

variable (m : (ℓ : Loc nD τ sig) → Buf (Elt Ideal) ℓ) (ρ : Dev nD → PrngReg)

/-- The kernel's run, read: the five results are the whole-array functions of the arguments, which end unchanged. -/
theorem run_rows : θ_run defs (onTc (τ := τ) (main (F := Ideal))) ⟨m, fun _ => 0, ρ⟩ fun r => ∀ c : Dev nD,
      r.2.mem ((c : Thread nD τ).loc main_v7_0) = dxA (a0 m c) (a1 m c) (a2 m c) (a3 m c) (a4 m c) (a5 m c) (a6 m c) (a7 m c)
      ∧ r.2.mem ((c : Thread nD τ).loc main_v7_1) = dgA (a0 m c) (a1 m c) (a2 m c) (a4 m c) (a5 m c) (a6 m c) (a7 m c)
      ∧ r.2.mem ((c : Thread nD τ).loc main_v7_2) = dxcA (a0 m c) (a1 m c) (a2 m c) (a3 m c) (a4 m c) (a5 m c) (a6 m c) (a7 m c)
      ∧ r.2.mem ((c : Thread nD τ).loc main_v7_3) = dxsA (a0 m c) (a1 m c) (a2 m c) (a3 m c) (a4 m c) (a5 m c) (a6 m c) (a7 m c)
      ∧ r.2.mem ((c : Thread nD τ).loc main_v7_4) = xhA (a0 m c) (a1 m c) (a2 m c) (a3 m c) (a6 m c) (a7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8' m c), (h c).2.1.trans (final9' m c), (h c).2.2.1.trans (final10' m c),
      (h c).2.2.2.1.trans (final11' m c), (h c).2.2.2.2.1.trans (final12' m c), (h c).2.2.2.2.2⟩)
    (run_blocks m ρ)

end Cert.DxIdeal.Value

namespace Cert.Proof.DxClaims

open Cert.Rows

/-- From equal arguments the kernel's five results equal the reference's. -/
theorem algebraic : Cert.algebraic_DxIdeal_DxRefIdeal := by
  intro m ρ m' ρ' _ hagree
  refine ⟨_, _, _, _, _, Cert.DxIdeal.Value.run_rows m ρ, ?_⟩
  refine (θ_run Cert.DxRefIdeal.defs _ _).mono (fun _ h c => ?_) (Cert.DxRefIdeal.Value.run m' ρ')
  obtain rfl : c = 0 := Subsingleton.elim _ _
  obtain ⟨e0, e1, e2, e3, e4, e5, e6, e7⟩ := hagree 0
  have f0 : Cert.DxRefIdeal.Value.b0 m' 0 = Cert.DxIdeal.Value.a0 m 0 := by
    unfold Cert.DxRefIdeal.Value.b0
    rw [e0]
  have f1 : Cert.DxRefIdeal.Value.b1 m' 0 = Cert.DxIdeal.Value.a1 m 0 := by
    unfold Cert.DxRefIdeal.Value.b1
    rw [e1]
  have f2 : Cert.DxRefIdeal.Value.b2 m' 0 = Cert.DxIdeal.Value.a2 m 0 := by
    unfold Cert.DxRefIdeal.Value.b2
    rw [e2]
  have f3 : Cert.DxRefIdeal.Value.b3 m' 0 = Cert.DxIdeal.Value.a3 m 0 := by
    unfold Cert.DxRefIdeal.Value.b3
    rw [e3]
  have f4 : Cert.DxRefIdeal.Value.b4 m' 0 = Cert.DxIdeal.Value.a4 m 0 := by
    unfold Cert.DxRefIdeal.Value.b4
    rw [e4]
  have f5 : Cert.DxRefIdeal.Value.b5 m' 0 = Cert.DxIdeal.Value.a5 m 0 := by
    unfold Cert.DxRefIdeal.Value.b5
    rw [e5]
  have f6 : Cert.DxRefIdeal.Value.b6 m' 0 = Cert.DxIdeal.Value.a6 m 0 := by
    unfold Cert.DxRefIdeal.Value.b6
    rw [e6]
  have f7 : Cert.DxRefIdeal.Value.b7 m' 0 = Cert.DxIdeal.Value.a7 m 0 := by
    unfold Cert.DxRefIdeal.Value.b7
    rw [e7]
  have h0 := h 0
  rw [f0, f1, f2, f3, f4, f5, f6, f7] at h0
  exact h0

end Cert.Proof.DxClaims

end
-- ==== Proof.lean ====
module

public import proofs.«01_k».proof.Defs
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.DxIdeal.Value
public import proofs.«01_k».proof.Proof.Gen.DxRefIdeal.Value
public import proofs.«01_k».proof.Proof.Gen.DwIdeal.Value
public import proofs.«01_k».proof.Proof.Gen.DwRefIdeal.Run
public import proofs.«01_k».proof.Proof.K.DwValue
public import proofs.«01_k».proof.Proof.K.DxClaims
public import Idealize.ShloMosaic.Adequacy
public import Idealize.ShloMosaic.Init

@[expose] public section

noncomputable section

namespace Cert.Proof

open Idealize.ShloMosaic Idealize.SL.Sem Cert.Dx

theorem claim : Cert.Claim := ⟨Cert.Dx.Gen.facts, Cert.DxIdeal.Gen.facts, Cert.DxRefIdeal.Gen.facts, Cert.Dw.Gen.facts, Cert.DwIdeal.Gen.facts, Cert.DwRefIdeal.Gen.facts, by
  exact ⟨fun m ρ _ => Cert.Dx.Gen.frame m ρ, fun m ρ _ => Cert.DxIdeal.Gen.frame m ρ,
    fun m ρ _ => Cert.DxRefIdeal.Gen.frame m ρ, fun m ρ _ => Cert.Dw.Gen.frame m ρ,
    fun m ρ _ => Cert.DwIdeal.Gen.frame m ρ, Cert.Proof.DwClaims.frame_ref, trivial, Cert.Proof.DxClaims.algebraic, trivial,
    Cert.Proof.DwClaims.algebraic⟩⟩

end Cert.Proof

end
